-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "qs" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
-- ==== Pre_finite.lean ====
abbrev S2x8192x6432 : Shape := ⟨3, ![2, 8192, 6432]⟩
abbrev S2x8x8192 : Shape := ⟨3, ![2, 8, 8192]⟩
abbrev S2x8192x1536 : Shape := ⟨3, ![2, 8192, 1536]⟩
abbrev S_ : Shape := ⟨0, ![]⟩

class Facts : Prop where
  slices_S2x8192x6432_S2x8192x1536_0_0_1816 : S2x8192x6432.Slices ![0, 0, 1816] S2x8192x1536
  bcast_S_S2x8192x1536 : S_.BroadcastsInDim S2x8192x1536 (![] : Fin 0 → Fin S2x8192x1536.rank)
  reducesTo_S2x8192x1536_S_d0_1_2 : S2x8192x1536.ReducesTo [0, 1, 2] S_
  h_S_ : 0 < S_.numel
  bcast_S_S2x8x8192 : S_.BroadcastsInDim S2x8x8192 (![] : Fin 0 → Fin S2x8x8192.rank)
  reducesTo_S2x8x8192_S_d0_1_2 : S2x8x8192.ReducesTo [0, 1, 2] S_

variable [Facts]

def fn {F : FTy → Type} [FloatOps F] (main_arg0 : FVec F S2x8192x6432 .f32) (main_arg1 : FVec F S2x8x8192 .f32) : IVec S_ 1 :=
  let main_v0 : FVec F S2x8192x1536 .f32 := (extractStridedSlice S2x8192x1536 ![0, 0, 1816] · slices_S2x8192x6432_S2x8192x1536_0_0_1816) main_arg0
  let main_v1 : FVec F S2x8192x1536 .f32 := Host.absf main_v0
  let main_cst : FVec F S_ .f32 := constant S_ .f32 0x7F800000#32
  let main_v2 : FVec F S2x8192x1536 .f32 := broadcastInDim S2x8192x1536 ![] bcast_S_S2x8192x1536 main_cst
  let main_v3 : IVec S2x8192x1536 1 := cmpf .olt main_v1 main_v2
  let main_c : IVec S_ 1 := constantI S_ 1 1#1
  let main_v4 : IVec S_ 1 := (fun x v => Host.reduce IntOp.andi x v reducesTo_S2x8192x1536_S_d0_1_2 h_S_) main_v3 main_c
  let main_v5 : FVec F S2x8x8192 .f32 := Host.absf main_arg1
  let main_cst_0 : FVec F S_ .f32 := constant S_ .f32 0x7F800000#32
  let main_v6 : FVec F S2x8x8192 .f32 := broadcastInDim S2x8x8192 ![] bcast_S_S2x8x8192 main_cst_0
  let main_v7 : IVec S2x8x8192 1 := cmpf .olt main_v5 main_v6
  let main_c_1 : IVec S_ 1 := constantI S_ 1 1#1
  let main_v8 : IVec S_ 1 := (fun x v => Host.reduce IntOp.andi x v reducesTo_S2x8x8192_S_d0_1_2 h_S_) main_v7 main_c_1
  let main_v9 : IVec S_ 1 := andi main_v4 main_v8
  main_v9
-- ==== Pre_routed.lean ====
abbrev S288x256x1024 : Shape := ⟨3, ![288, 256, 1024]⟩
abbrev S32 : Shape := ⟨1, ![32]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1 : Shape := ⟨1, ![1]⟩
abbrev S_ : Shape := ⟨0, ![]⟩

class Facts : Prop where
  slices_S32_S1_31 : S32.Slices ![31] S1
  shapeCasts_S1_S_ : S1.ShapeCasts S_

variable [Facts]

def fn {F : FTy → Type} [FloatOps F] (main_arg0 : FVec F S288x256x1024 .f32) (main_arg1 : IVec S32 32) (main_arg2 : FVec F S2x32x1024x2048 .f32) (main_arg3 : FVec F S2x32x2048 .f32) (main_arg4 : FVec F S2x32x1024x1024 .f32) (main_arg5 : FVec F S2x32x1024 .f32) : IVec S_ 1 :=
  let main_v0 : IVec S1 32 := (extractStridedSlice S1 ![31] · slices_S32_S1_31) main_arg1
  let main_v1 : IVec S_ 32 := shapeCast S_ main_v0 shapeCasts_S1_S_
  let main_c : IVec S_ 32 := constantI S_ 32 256#32
  let main_v2 : IVec S_ 1 := cmpi .sge main_v1 main_c
  main_v2
-- ==== Kernel.lean ====
abbrev S2x8192x6432 : Shape := ⟨3, ![2, 8192, 6432]⟩
abbrev S2x8x8192 : Shape := ⟨3, ![2, 8, 8192]⟩
abbrev S8 : Shape := ⟨1, ![8]⟩
abbrev S1x8x1x1 : Shape := ⟨4, ![1, 8, 1, 1]⟩
abbrev S16384x6432 : Shape := ⟨2, ![16384, 6432]⟩
abbrev S16384x256 : Shape := ⟨2, ![16384, 256]⟩
abbrev S16384x128 : Shape := ⟨2, ![16384, 128]⟩
abbrev S16384x512 : Shape := ⟨2, ![16384, 512]⟩
abbrev S16384x1024 : Shape := ⟨2, ![16384, 1024]⟩
abbrev S2x8192x512 : Shape := ⟨3, ![2, 8192, 512]⟩
abbrev S2x8192x128 : Shape := ⟨3, ![2, 8192, 128]⟩
abbrev S2x8192x1792 : Shape := ⟨3, ![2, 8192, 1792]⟩
abbrev S2x1792x8192 : Shape := ⟨3, ![2, 1792, 8192]⟩
abbrev S_ : Shape := ⟨0, ![]⟩
abbrev S2x8x1x8192 : Shape := ⟨4, ![2, 8, 1, 8192]⟩
abbrev S2x8x3x8192 : Shape := ⟨4, ![2, 8, 3, 8192]⟩
abbrev S2x8x6x8192 : Shape := ⟨4, ![2, 8, 6, 8192]⟩
abbrev S2x8x4x8192 : Shape := ⟨4, ![2, 8, 4, 8192]⟩
abbrev S2x8x16x8192 : Shape := ⟨4, ![2, 8, 16, 8192]⟩
abbrev S2x8x8192x3 : Shape := ⟨4, ![2, 8, 8192, 3]⟩
abbrev S2x4x2x8192x3 : Shape := ⟨5, ![2, 4, 2, 8192, 3]⟩
abbrev S2x4x8192x3 : Shape := ⟨4, ![2, 4, 8192, 3]⟩
abbrev S2x4x1x8192x3 : Shape := ⟨5, ![2, 4, 1, 8192, 3]⟩
abbrev S2x4x8192x116 : Shape := ⟨4, ![2, 4, 8192, 116]⟩
abbrev S2x4x8192x128 : Shape := ⟨4, ![2, 4, 8192, 128]⟩
abbrev S2x512x8192 : Shape := ⟨3, ![2, 512, 8192]⟩
abbrev S1x256x512 : Shape := ⟨3, ![1, 256, 512]⟩
abbrev S1x4x16x512 : Shape := ⟨4, ![1, 4, 16, 512]⟩
abbrev S8192x256 : Shape := ⟨2, ![8192, 256]⟩
abbrev S1x2x8192x128 : Shape := ⟨4, ![1, 2, 8192, 128]⟩
abbrev S1x256x8192 : Shape := ⟨3, ![1, 256, 8192]⟩
abbrev S1x64x512 : Shape := ⟨3, ![1, 64, 512]⟩
abbrev S64x512 : Shape := ⟨2, ![64, 512]⟩
abbrev S128x512 : Shape := ⟨2, ![128, 512]⟩
abbrev S1x1x16x512 : Shape := ⟨4, ![1, 1, 16, 512]⟩
abbrev S16x512 : Shape := ⟨2, ![16, 512]⟩
abbrev S112x512 : Shape := ⟨2, ![112, 512]⟩
abbrev S256x512 : Shape := ⟨2, ![256, 512]⟩
abbrev S1x512 : Shape := ⟨2, ![1, 512]⟩
abbrev S80x512 : Shape := ⟨2, ![80, 512]⟩
abbrev S512x128 : Shape := ⟨2, ![512, 128]⟩
abbrev S1x1x512x128 : Shape := ⟨4, ![1, 1, 512, 128]⟩
abbrev S512x256 : Shape := ⟨2, ![512, 256]⟩
abbrev S512x512 : Shape := ⟨2, ![512, 512]⟩
abbrev S512 : Shape := ⟨1, ![512]⟩

abbrev nBuf : Space → Nat
  | .hbm => 61
  | .vmem => 12
  | .smem => 0
  | _ => 0

abbrev bufTy : (tb : Table) → Fin (tcTables nBuf tb) → BufTy
  | .hbm, ⟨0, _⟩ => ⟨S2x8192x6432, .f32⟩
  | .hbm, ⟨1, _⟩ => ⟨S2x8x8192, .f32⟩
  | .hbm, ⟨2, _⟩ => ⟨S8, .i1⟩
  | .hbm, ⟨3, _⟩ => ⟨S1x8x1x1, .i1⟩
  | .hbm, ⟨4, _⟩ => ⟨S16384x6432, .f32⟩
  | .hbm, ⟨5, _⟩ => ⟨S16384x256, .f32⟩
  | .hbm, ⟨6, _⟩ => ⟨S16384x128, .f32⟩
  | .hbm, ⟨7, _⟩ => ⟨S16384x128, .f32⟩
  | .hbm, ⟨8, _⟩ => ⟨S16384x512, .f32⟩
  | .hbm, ⟨9, _⟩ => ⟨S16384x1024, .f32⟩
  | .hbm, ⟨10, _⟩ => ⟨S16384x1024, .bf16⟩
  | .hbm, ⟨11, _⟩ => ⟨S2x8192x512, .f32⟩
  | .hbm, ⟨12, _⟩ => ⟨S2x8192x128, .f32⟩
  | .hbm, ⟨13, _⟩ => ⟨S2x8192x128, .f32⟩
  | .hbm, ⟨14, _⟩ => ⟨S2x8192x512, .f32⟩
  | .hbm, ⟨15, _⟩ => ⟨S2x8192x512, .f32⟩
  | .hbm, ⟨16, _⟩ => ⟨S2x8192x1792, .f32⟩
  | .hbm, ⟨17, _⟩ => ⟨S2x1792x8192, .f32⟩
  | .hbm, ⟨18, _⟩ => ⟨S2x1792x8192, .bf16⟩
  | .hbm, ⟨19, _⟩ => ⟨S_, .f32⟩
  | .hbm, ⟨20, _⟩ => ⟨S_, .f32⟩
  | .hbm, ⟨21, _⟩ => ⟨S2x8x8192, .f32⟩
  | .hbm, ⟨22, _⟩ => ⟨S2x8x8192, .f32⟩
  | .hbm, ⟨23, _⟩ => ⟨S2x8x8192, .bf16⟩
  | .hbm, ⟨24, _⟩ => ⟨S2x8x8192, .f32⟩
  | .hbm, ⟨25, _⟩ => ⟨S2x8x8192, .f32⟩
  | .hbm, ⟨26, _⟩ => ⟨S2x8x8192, .bf16⟩
  | .hbm, ⟨27, _⟩ => ⟨S2x8x8192, .f32⟩
  | .hbm, ⟨28, _⟩ => ⟨S2x8x8192, .f32⟩
  | .hbm, ⟨29, _⟩ => ⟨S2x8x8192, .bf16⟩
  | .hbm, ⟨30, _⟩ => ⟨S2x8x1x8192, .bf16⟩
  | .hbm, ⟨31, _⟩ => ⟨S2x8x1x8192, .bf16⟩
  | .hbm, ⟨32, _⟩ => ⟨S2x8x1x8192, .bf16⟩
  | .hbm, ⟨33, _⟩ => ⟨S2x8x3x8192, .bf16⟩
  | .hbm, ⟨34, _⟩ => ⟨S_, .bf16⟩
  | .hbm, ⟨35, _⟩ => ⟨S2x8x3x8192, .bf16⟩
  | .hbm, ⟨36, _⟩ => ⟨S_, .bf16⟩
  | .hbm, ⟨37, _⟩ => ⟨S2x8x6x8192, .bf16⟩
  | .hbm, ⟨38, _⟩ => ⟨S2x8x6x8192, .bf16⟩
  | .hbm, ⟨39, _⟩ => ⟨S2x8x6x8192, .i1⟩
  | .hbm, ⟨40, _⟩ => ⟨S2x8x6x8192, .bf16⟩
  | .hbm, ⟨41, _⟩ => ⟨S2x8x6x8192, .bf16⟩
  | .hbm, ⟨42, _⟩ => ⟨S2x8x6x8192, .i1⟩
  | .hbm, ⟨43, _⟩ => ⟨S2x8x6x8192, .bf16⟩
  | .hbm, ⟨44, _⟩ => ⟨S_, .bf16⟩
  | .hbm, ⟨45, _⟩ => ⟨S2x8x4x8192, .bf16⟩
  | .hbm, ⟨46, _⟩ => ⟨S2x8x16x8192, .bf16⟩
  | .hbm, ⟨47, _⟩ => ⟨S2x8x8192x3, .bf16⟩
  | .hbm, ⟨48, _⟩ => ⟨S2x4x2x8192x3, .bf16⟩
  | .hbm, ⟨49, _⟩ => ⟨S_, .bf16⟩
  | .hbm, ⟨50, _⟩ => ⟨S2x4x8192x3, .bf16⟩
  | .hbm, ⟨51, _⟩ => ⟨S2x4x1x8192x3, .bf16⟩
  | .hbm, ⟨52, _⟩ => ⟨S2x4x8192x3, .bf16⟩
  | .hbm, ⟨53, _⟩ => ⟨S2x4x8192x3, .bf16⟩
  | .hbm, ⟨54, _⟩ => ⟨S2x4x1x8192x3, .bf16⟩
  | .hbm, ⟨55, _⟩ => ⟨S2x4x8192x3, .bf16⟩
  | .hbm, ⟨56, _⟩ => ⟨S2x4x8192x3, .bf16⟩
  | .hbm, ⟨57, _⟩ => ⟨S_, .bf16⟩
  | .hbm, ⟨58, _⟩ => ⟨S2x4x8192x116, .bf16⟩
  | .hbm, ⟨59, _⟩ => ⟨S2x4x8192x128, .bf16⟩
  | .hbm, ⟨60, _⟩ => ⟨S2x512x8192, .bf16⟩
  | .local _ .vmem, ⟨0, _⟩ => ⟨S1x256x512, .bf16⟩
  | .local _ .vmem, ⟨1, _⟩ => ⟨S1x256x512, .bf16⟩
  | .local _ .vmem, ⟨2, _⟩ => ⟨S1x4x16x512, .bf16⟩
  | .local _ .vmem, ⟨3, _⟩ => ⟨S1x4x16x512, .bf16⟩
  | .local _ .vmem, ⟨4, _⟩ => ⟨S8192x256, .bf16⟩
  | .local _ .vmem, ⟨5, _⟩ => ⟨S8192x256, .bf16⟩
  | .local _ .vmem, ⟨6, _⟩ => ⟨S1x2x8192x128, .bf16⟩
  | .local _ .vmem, ⟨7, _⟩ => ⟨S1x2x8192x128, .bf16⟩
  | .local _ .vmem, ⟨8, _⟩ => ⟨S1x256x8192, .bf16⟩
  | .local _ .vmem, ⟨9, _⟩ => ⟨S1x256x8192, .bf16⟩
  | .local _ .vmem, ⟨10, _⟩ => ⟨S1x256x512, .bf16⟩
  | .local _ .vmem, ⟨11, _⟩ => ⟨S1x256x512, .bf16⟩
  | _, _ => ⟨S2x8192x6432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_v33 : Ref sig .tc := ⟨.hbm, 40, rfl⟩
abbrev main_v34 : Ref sig .tc := ⟨.hbm, 41, rfl⟩
abbrev main_call1_v0 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

@[reducible] def k0_t1_loop (i : grid0.Coords) : Scf.Loop 32 :=
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_40 : BitVec 32 := 1#32
  ⟨c0_i32, v60, c1_i32_40⟩
def k0_mult1 (i : grid0.Coords) (k0_t1 : Fin (k0_t1_loop i).trips) : BitVec 32 :=
  let c0_i32 : BitVec 32 := 0#32
  let c1_i32_40 : BitVec 32 := 1#32
  let arg9 : BitVec 32 := Scf.iv c0_i32 c1_i32_40 k0_t1
  let c512_i32_90 : BitVec 32 := 512#32
  let v198 : BitVec 32 := Scalar.muli arg9 c512_i32_90
  v198
def k0_off1 (i : grid0.Coords) (k0_t1 : Fin (k0_t1_loop i).trips) : Fin 2 → Nat :=
  let c0_i32 : BitVec 32 := 0#32
  let c1_i32_40 : BitVec 32 := 1#32
  let arg9 : BitVec 32 := Scf.iv c0_i32 c1_i32_40 k0_t1
  let c512_i32_90 : BitVec 32 := 512#32
  let v198 : BitVec 32 := Scalar.muli arg9 c512_i32_90
  let v199 : BitVec 32 := v198
  let v200 : Index := Scalar.indexCast v199
  let c0_91 : Index := 0#32
  ![v200.toNat, 0]
def k0_off2 (i : grid0.Coords) (k0_t1 : Fin (k0_t1_loop i).trips) : Fin 4 → Nat :=
  let c0_92 : Index := 0#32
  let c0_93 : Index := 0#32
  let c0_i32 : BitVec 32 := 0#32
  let c1_i32_40 : BitVec 32 := 1#32
  let arg9 : BitVec 32 := Scf.iv c0_i32 c1_i32_40 k0_t1
  let c512_i32_90 : BitVec 32 := 512#32
  let v198 : BitVec 32 := Scalar.muli arg9 c512_i32_90
  let v199 : BitVec 32 := v198
  let v203 : Index := Scalar.indexCast v199
  let c0_94 : Index := 0#32
  ![0, 0, v203.toNat, 0]
def k0_off3 (i : grid0.Coords) (k0_t1 : Fin (k0_t1_loop i).trips) : Fin 2 → Nat :=
  let c0_i32 : BitVec 32 := 0#32
  let c1_i32_40 : BitVec 32 := 1#32
  let arg9 : BitVec 32 := Scf.iv c0_i32 c1_i32_40 k0_t1
  let c512_i32_90 : BitVec 32 := 512#32
  let v198 : BitVec 32 := Scalar.muli arg9 c512_i32_90
  let v199 : BitVec 32 := v198
  let v207 : Index := Scalar.indexCast v199
  let c128_95 : Index := 128#32
  ![v207.toNat, 128]
def k0_off4 (i : grid0.Coords) (k0_t1 : Fin (k0_t1_loop i).trips) : Fin 4 → Nat :=
  let c0_96 : Index := 0#32
  let c1_97 : Index := 1#32
  let c0_i32 : BitVec 32 := 0#32
  let c1_i32_40 : BitVec 32 := 1#32
  let arg9 : BitVec 32 := Scf.iv c0_i32 c1_i32_40 k0_t1
  let c512_i32_90 : BitVec 32 := 512#32
  let v198 : BitVec 32 := Scalar.muli arg9 c512_i32_90
  let v199 : BitVec 32 := v198
  let v210 : Index := Scalar.indexCast v199
  let c0_98 : Index := 0#32
  ![0, 1, v210.toNat, 0]
def k0_off5 (i : grid0.Coords) (k0_t1 : Fin (k0_t1_loop i).trips) : Fin 3 → Nat :=
  let c0_99 : Index := 0#32
  let c0_100 : Index := 0#32
  let c0_i32 : BitVec 32 := 0#32
  let c1_i32_40 : BitVec 32 := 1#32
  let arg9 : BitVec 32 := Scf.iv c0_i32 c1_i32_40 k0_t1
  let c512_i32_90 : BitVec 32 := 512#32
  let v198 : BitVec 32 := Scalar.muli arg9 c512_i32_90
  let v199 : BitVec 32 := v198
  let v214 : Index := Scalar.indexCast v199
  ![0, 0, v214.toNat]
def k0_off6 (i : grid0.Coords) (k0_t1 : Fin (k0_t1_loop i).trips) : Fin 3 → Nat :=
  let c0_102 : Index := 0#32
  let c64_103 : Index := 64#32
  let c0_i32 : BitVec 32 := 0#32
  let c1_i32_40 : BitVec 32 := 1#32
  let arg9 : BitVec 32 := Scf.iv c0_i32 c1_i32_40 k0_t1
  let c512_i32_90 : BitVec 32 := 512#32
  let v198 : BitVec 32 := Scalar.muli arg9 c512_i32_90
  let v199 : BitVec 32 := v198
  let v219 : Index := Scalar.indexCast v199
  ![0, 64, v219.toNat]
def k0_off7 (i : grid0.Coords) (k0_t1 : Fin (k0_t1_loop i).trips) : Fin 3 → Nat :=
  let c0_105 : Index := 0#32
  let c128_106 : Index := 128#32
  let c0_i32 : BitVec 32 := 0#32
  let c1_i32_40 : BitVec 32 := 1#32
  let arg9 : BitVec 32 := Scf.iv c0_i32 c1_i32_40 k0_t1
  let c512_i32_90 : BitVec 32 := 512#32
  let v198 : BitVec 32 := Scalar.muli arg9 c512_i32_90
  let v199 : BitVec 32 := v198
  let v224 : Index := Scalar.indexCast v199
  ![0, 128, v224.toNat]
def k0_off8 (i : grid0.Coords) (k0_t1 : Fin (k0_t1_loop i).trips) : Fin 3 → Nat :=
  let c0_108 : Index := 0#32
  let c192_109 : Index := 192#32
  let c0_i32 : BitVec 32 := 0#32
  let c1_i32_40 : BitVec 32 := 1#32
  let arg9 : BitVec 32 := Scf.iv c0_i32 c1_i32_40 k0_t1
  let c512_i32_90 : BitVec 32 := 512#32
  let v198 : BitVec 32 := Scalar.muli arg9 c512_i32_90
  let v199 : BitVec 32 := v198
  let v229 : Index := Scalar.indexCast v199
  ![0, 192, v229.toNat]
@[reducible] def k0_t2_loop (i : grid0.Coords) : Scf.Loop 32 :=
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let v57 : BitVec 32 := Scalar.addi c0_i32 v56
  let c1_i32_41 : BitVec 32 := 1#32
  ⟨v60, v57, c1_i32_41⟩
def k0_mult2 (i : grid0.Coords) (k0_t2 : Fin (k0_t2_loop i).trips) : BitVec 32 :=
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_41 : BitVec 32 := 1#32
  let arg9 : BitVec 32 := Scf.iv v60 c1_i32_41 k0_t2
  let c512_i32_90 : BitVec 32 := 512#32
  let v198 : BitVec 32 := Scalar.muli arg9 c512_i32_90
  v198
def k0_off9 (i : grid0.Coords) (k0_t2 : Fin (k0_t2_loop i).trips) : Fin 2 → Nat :=
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_41 : BitVec 32 := 1#32
  let arg9 : BitVec 32 := Scf.iv v60 c1_i32_41 k0_t2
  let c512_i32_90 : BitVec 32 := 512#32
  let v198 : BitVec 32 := Scalar.muli arg9 c512_i32_90
  let v199 : BitVec 32 := v198
  let v200 : Index := Scalar.indexCast v199
  let c0_91 : Index := 0#32
  ![v200.toNat, 0]
def k0_off10 (i : grid0.Coords) (k0_t2 : Fin (k0_t2_loop i).trips) : Fin 4 → Nat :=
  let c0_92 : Index := 0#32
  let c0_93 : Index := 0#32
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_41 : BitVec 32 := 1#32
  let arg9 : BitVec 32 := Scf.iv v60 c1_i32_41 k0_t2
  let c512_i32_90 : BitVec 32 := 512#32
  let v198 : BitVec 32 := Scalar.muli arg9 c512_i32_90
  let v199 : BitVec 32 := v198
  let v203 : Index := Scalar.indexCast v199
  let c0_94 : Index := 0#32
  ![0, 0, v203.toNat, 0]
def k0_off11 (i : grid0.Coords) (k0_t2 : Fin (k0_t2_loop i).trips) : Fin 2 → Nat :=
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_41 : BitVec 32 := 1#32
  let arg9 : BitVec 32 := Scf.iv v60 c1_i32_41 k0_t2
  let c512_i32_90 : BitVec 32 := 512#32
  let v198 : BitVec 32 := Scalar.muli arg9 c512_i32_90
  let v199 : BitVec 32 := v198
  let v207 : Index := Scalar.indexCast v199
  let c128_95 : Index := 128#32
  ![v207.toNat, 128]
def k0_off12 (i : grid0.Coords) (k0_t2 : Fin (k0_t2_loop i).trips) : Fin 4 → Nat :=
  let c0_96 : Index := 0#32
  let c1_97 : Index := 1#32
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_41 : BitVec 32 := 1#32
  let arg9 : BitVec 32 := Scf.iv v60 c1_i32_41 k0_t2
  let c512_i32_90 : BitVec 32 := 512#32
  let v198 : BitVec 32 := Scalar.muli arg9 c512_i32_90
  let v199 : BitVec 32 := v198
  let v210 : Index := Scalar.indexCast v199
  let c0_98 : Index := 0#32
  ![0, 1, v210.toNat, 0]
def k0_off13 (i : grid0.Coords) (k0_t2 : Fin (k0_t2_loop i).trips) : Fin 3 → Nat :=
  let c0_99 : Index := 0#32
  let c0_100 : Index := 0#32
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_41 : BitVec 32 := 1#32
  let arg9 : BitVec 32 := Scf.iv v60 c1_i32_41 k0_t2
  let c512_i32_90 : BitVec 32 := 512#32
  let v198 : BitVec 32 := Scalar.muli arg9 c512_i32_90
  let v199 : BitVec 32 := v198
  let v214 : Index := Scalar.indexCast v199
  ![0, 0, v214.toNat]
def k0_off14 (i : grid0.Coords) (k0_t2 : Fin (k0_t2_loop i).trips) : Fin 3 → Nat :=
  let c0_102 : Index := 0#32
  let c64_103 : Index := 64#32
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_41 : BitVec 32 := 1#32
  let arg9 : BitVec 32 := Scf.iv v60 c1_i32_41 k0_t2
  let c512_i32_90 : BitVec 32 := 512#32
  let v198 : BitVec 32 := Scalar.muli arg9 c512_i32_90
  let v199 : BitVec 32 := v198
  let v219 : Index := Scalar.indexCast v199
  ![0, 64, v219.toNat]
def k0_off15 (i : grid0.Coords) (k0_t2 : Fin (k0_t2_loop i).trips) : Fin 3 → Nat :=
  let c0_105 : Index := 0#32
  let c128_106 : Index := 128#32
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_41 : BitVec 32 := 1#32
  let arg9 : BitVec 32 := Scf.iv v60 c1_i32_41 k0_t2
  let c512_i32_90 : BitVec 32 := 512#32
  let v198 : BitVec 32 := Scalar.muli arg9 c512_i32_90
  let v199 : BitVec 32 := v198
  let v224 : Index := Scalar.indexCast v199
  ![0, 128, v224.toNat]
def k0_off16 (i : grid0.Coords) (k0_t2 : Fin (k0_t2_loop i).trips) : Fin 3 → Nat :=
  let c0_108 : Index := 0#32
  let c192_109 : Index := 192#32
  let c0_i32 : BitVec 32 := 0#32
  let arg2 : BitVec 32 := BitVec.ofNat 32 (i 2).val
  let v56 : BitVec 32 := Scalar.subi arg2 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_41 : BitVec 32 := 1#32
  let arg9 : BitVec 32 := Scf.iv v60 c1_i32_41 k0_t2
  let c512_i32_90 : BitVec 32 := 512#32
  let v198 : BitVec 32 := Scalar.muli arg9 c512_i32_90
  let v199 : BitVec 32 := v198
  let v229 : Index := Scalar.indexCast v199
  ![0, 192, v229.toNat]
def k0_mult3 (i : grid0.Coords) : BitVec 32 :=
  let arg2 : BitVec 32 := BitVec.ofNat 32 (i 2).val
  let c512_i32 : BitVec 32 := 512#32
  let v66 : BitVec 32 := Scalar.muli arg2 c512_i32
  v66
def k0_off17 (i : grid0.Coords) : Fin 2 → Nat :=
  let arg2 : BitVec 32 := BitVec.ofNat 32 (i 2).val
  let c512_i32 : BitVec 32 := 512#32
  let v66 : BitVec 32 := Scalar.muli arg2 c512_i32
  let v67 : BitVec 32 := v66
  let v68 : Index := Scalar.indexCast v67
  let c0_42 : Index := 0#32
  ![v68.toNat, 0]
def k0_off18 (i : grid0.Coords) : Fin 4 → Nat :=
  let c0_43 : Index := 0#32
  let c0_44 : Index := 0#32
  let arg2 : BitVec 32 := BitVec.ofNat 32 (i 2).val
  let c512_i32 : BitVec 32 := 512#32
  let v66 : BitVec 32 := Scalar.muli arg2 c512_i32
  let v67 : BitVec 32 := v66
  let v71 : Index := Scalar.indexCast v67
  let c0_45 : Index := 0#32
  ![0, 0, v71.toNat, 0]
def k0_off19 (i : grid0.Coords) : Fin 2 → Nat :=
  let arg2 : BitVec 32 := BitVec.ofNat 32 (i 2).val
  let c512_i32 : BitVec 32 := 512#32
  let v66 : BitVec 32 := Scalar.muli arg2 c512_i32
  let v67 : BitVec 32 := v66
  let v75 : Index := Scalar.indexCast v67
  let c128_46 : Index := 128#32
  ![v75.toNat, 128]
def k0_off20 (i : grid0.Coords) : Fin 4 → Nat :=
  let c0_47 : Index := 0#32
  let c1_48 : Index := 1#32
  let arg2 : BitVec 32 := BitVec.ofNat 32 (i 2).val
  let c512_i32 : BitVec 32 := 512#32
  let v66 : BitVec 32 := Scalar.muli arg2 c512_i32
  let v67 : BitVec 32 := v66
  let v78 : Index := Scalar.indexCast v67
  let c0_49 : Index := 0#32
  ![0, 1, v78.toNat, 0]
def k0_off21 (i : grid0.Coords) : Fin 3 → Nat :=
  let c0_50 : Index := 0#32
  let c0_51 : Index := 0#32
  let arg2 : BitVec 32 := BitVec.ofNat 32 (i 2).val
  let c512_i32 : BitVec 32 := 512#32
  let v66 : BitVec 32 := Scalar.muli arg2 c512_i32
  let v67 : BitVec 32 := v66
  let v82 : Index := Scalar.indexCast v67
  ![0, 0, v82.toNat]
def k0_off22 (i : grid0.Coords) : Fin 3 → Nat :=
  let c0_53 : Index := 0#32
  let c64_54 : Index := 64#32
  let arg2 : BitVec 32 := BitVec.ofNat 32 (i 2).val
  let c512_i32 : BitVec 32 := 512#32
  let v66 : BitVec 32 := Scalar.muli arg2 c512_i32
  let v67 : BitVec 32 := v66
  let v87 : Index := Scalar.indexCast v67
  ![0, 64, v87.toNat]
def k0_off23 (i : grid0.Coords) : Fin 3 → Nat :=
  let c0_56 : Index := 0#32
  let c128_57 : Index := 128#32
  let arg2 : BitVec 32 := BitVec.ofNat 32 (i 2).val
  let c512_i32 : BitVec 32 := 512#32
  let v66 : BitVec 32 := Scalar.muli arg2 c512_i32
  let v67 : BitVec 32 := v66
  let v92 : Index := Scalar.indexCast v67
  ![0, 128, v92.toNat]
def k0_off24 (i : grid0.Coords) : Fin 3 → Nat :=
  let c0_59 : Index := 0#32
  let c192_60 : Index := 192#32
  let arg2 : BitVec 32 := BitVec.ofNat 32 (i 2).val
  let c512_i32 : BitVec 32 := 512#32
  let v66 : BitVec 32 := Scalar.muli arg2 c512_i32
  let v67 : BitVec 32 := v66
  let v97 : Index := Scalar.indexCast v67
  ![0, 192, v97.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, v0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "qs" => some (((1 / 8) * (Real.log 2)⁻¹ : ℝ) : EReal)
  | _ => none
-- ==== ReferenceIdeal.lean ====
abbrev S2x8192x6432 : Shape := ⟨3, ![2, 8192, 6432]⟩
abbrev S2x8x8192 : Shape := ⟨3, ![2, 8, 8192]⟩
abbrev S2x8192x1536 : Shape := ⟨3, ![2, 8192, 1536]⟩
abbrev S2x8192x3x8x64 : Shape := ⟨5, ![2, 8192, 3, 8, 64]⟩
abbrev S2x8192x1x8x64 : Shape := ⟨5, ![2, 8192, 1, 8, 64]⟩
abbrev S2x8192x8x64 : Shape := ⟨4, ![2, 8192, 8, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8x8192x8192 : Shape := ⟨4, ![2, 8, 8192, 8192]⟩
abbrev S_ : Shape := ⟨0, ![]⟩
abbrev S2x8x8192x1 : Shape := ⟨4, ![2, 8, 8192, 1]⟩
abbrev S2x8x1x8192 : Shape := ⟨4, ![2, 8, 1, 8192]⟩
abbrev S2x8x64x8192 : Shape := ⟨4, ![2, 8, 64, 8192]⟩
abbrev S2x8192x512 : Shape := ⟨3, ![2, 8192, 512]⟩
abbrev S2x512x8192 : Shape := ⟨3, ![2, 512, 8192]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x6432, .f32⟩
  | .hbm, ⟨1, _⟩ => ⟨S2x8x8192, .f32⟩
  | .hbm, ⟨2, _⟩ => ⟨S2x8192x1536, .f32⟩
  | .hbm, ⟨3, _⟩ => ⟨S2x8192x3x8x64, .f32⟩
  | .hbm, ⟨4, _⟩ => ⟨S2x8192x1x8x64, .f32⟩
  | .hbm, ⟨5, _⟩ => ⟨S2x8192x8x64, .f32⟩
  | .hbm, ⟨6, _⟩ => ⟨S2x8192x1x8x64, .f32⟩
  | .hbm, ⟨7, _⟩ => ⟨S2x8192x8x64, .f32⟩
  | .hbm, ⟨8, _⟩ => ⟨S2x8192x1x8x64, .f32⟩
  | .hbm, ⟨9, _⟩ => ⟨S2x8192x8x64, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x1x8192x8192, .i1⟩
  | .hbm, ⟨17, _⟩ => ⟨S2x8x8192x8192, .f32⟩
  | .hbm, ⟨18, _⟩ => ⟨S_, .f32⟩
  | .hbm, ⟨19, _⟩ => ⟨S2x8x8192x8192, .f32⟩
  | .hbm, ⟨20, _⟩ => ⟨S2x8x8192x8192, .f32⟩
  | .hbm, ⟨21, _⟩ => ⟨S2x8x8192x1, .f32⟩
  | .hbm, ⟨22, _⟩ => ⟨S2x8x8192x8192, .f32⟩
  | .hbm, ⟨23, _⟩ => ⟨S2x8x8192x8192, .f32⟩
  | .hbm, ⟨24, _⟩ => ⟨S2x8x1x8192, .f32⟩
  | .hbm, ⟨25, _⟩ => ⟨S2x8x8192x8192, .f32⟩
  | .hbm, ⟨26, _⟩ => ⟨S2x8x8192x8192, .f32⟩
  | .hbm, ⟨27, _⟩ => ⟨S_, .f32⟩
  | .hbm, ⟨28, _⟩ => ⟨S_, .f32⟩
  | .hbm, ⟨29, _⟩ => ⟨S2x8x8192x8192, .i1⟩
  | .hbm, ⟨30, _⟩ => ⟨S2x8x8192x8192, .f32⟩
  | .hbm, ⟨31, _⟩ => ⟨S2x8x8192x8192, .f32⟩
  | .hbm, ⟨32, _⟩ => ⟨S_, .f32⟩
  | .hbm, ⟨33, _⟩ => ⟨S2x8x8192, .f32⟩
  | .hbm, ⟨34, _⟩ => ⟨S_, .f32⟩
  | .hbm, ⟨35, _⟩ => ⟨S2x8x8192, .f32⟩
  | .hbm, ⟨36, _⟩ => ⟨S2x8x8192, .f32⟩
  | .hbm, ⟨37, _⟩ => ⟨S2x8x8192x1, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S_, .f32⟩
  | .hbm, ⟨42, _⟩ => ⟨S2x8x8192, .f32⟩
  | .hbm, ⟨43, _⟩ => ⟨S2x8x8192x1, .f32⟩
  | .hbm, ⟨44, _⟩ => ⟨S2x8x8192x8192, .f32⟩
  | .hbm, ⟨45, _⟩ => ⟨S2x8x8192x8192, .f32⟩
  | .hbm, ⟨46, _⟩ => ⟨S_, .f32⟩
  | .hbm, ⟨47, _⟩ => ⟨S_, .f32⟩
  | .hbm, ⟨48, _⟩ => ⟨S2x8x8192x8192, .i1⟩
  | .hbm, ⟨49, _⟩ => ⟨S2x8x8192x8192, .f32⟩
  | .hbm, ⟨50, _⟩ => ⟨S2x8x8192x8192, .f32⟩
  | .hbm, ⟨51, _⟩ => ⟨S2x8x64x8192, .f32⟩
  | .hbm, ⟨52, _⟩ => ⟨S2x8192x8x64, .f32⟩
  | .hbm, ⟨53, _⟩ => ⟨S2x8192x512, .f32⟩
  | .hbm, ⟨54, _⟩ => ⟨S2x512x8192, .f32⟩
  | .hbm, ⟨55, _⟩ => ⟨S2x512x8192, .bf16⟩
  | _, _ => ⟨S2x8192x6432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel2.lean ====
abbrev S288x256x1024 : Shape := ⟨3, ![288, 256, 1024]⟩
abbrev S32 : Shape := ⟨1, ![32]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S589824x128 : Shape := ⟨2, ![589824, 128]⟩
abbrev S288 : Shape := ⟨1, ![288]⟩
abbrev S288x1 : Shape := ⟨2, ![288, 1]⟩
abbrev S_ : Shape := ⟨0, ![]⟩
abbrev S1x32 : Shape := ⟨2, ![1, 32]⟩
abbrev S288x32 : Shape := ⟨2, ![288, 32]⟩
abbrev S1 : Shape := ⟨1, ![1]⟩
abbrev S2x32x1x2048 : Shape := ⟨4, ![2, 32, 1, 2048]⟩
abbrev S2x32x1x1024 : Shape := ⟨4, ![2, 32, 1, 1024]⟩
abbrev S2048x128 : Shape := ⟨2, ![2048, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S256x128 : Shape := ⟨2, ![256, 128]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 39
  | .vmem => 14
  | .smem => 2
  | _ => 0

abbrev bufTy : (tb : Table) → Fin (tcTables nBuf tb) → BufTy
  | .hbm, ⟨0, _⟩ => ⟨S288x256x1024, .f32⟩
  | .hbm, ⟨1, _⟩ => ⟨S32, .i32⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S589824x128, .f32⟩
  | .hbm, ⟨7, _⟩ => ⟨S288, .i32⟩
  | .hbm, ⟨8, _⟩ => ⟨S288x1, .i32⟩
  | .hbm, ⟨9, _⟩ => ⟨S_, .i32⟩
  | .hbm, ⟨10, _⟩ => ⟨S288x1, .i32⟩
  | .hbm, ⟨11, _⟩ => ⟨S288x1, .i32⟩
  | .hbm, ⟨12, _⟩ => ⟨S1x32, .i32⟩
  | .hbm, ⟨13, _⟩ => ⟨S288x32, .i32⟩
  | .hbm, ⟨14, _⟩ => ⟨S288x32, .i32⟩
  | .hbm, ⟨15, _⟩ => ⟨S288x32, .i1⟩
  | .hbm, ⟨16, _⟩ => ⟨S288x32, .i32⟩
  | .hbm, ⟨17, _⟩ => ⟨S_, .i32⟩
  | .hbm, ⟨18, _⟩ => ⟨S288, .i32⟩
  | .hbm, ⟨19, _⟩ => ⟨S_, .i32⟩
  | .hbm, ⟨20, _⟩ => ⟨S288, .i32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S2x32x1x2048, .f32⟩
  | .hbm, ⟨37, _⟩ => ⟨S2x32x1x1024, .f32⟩
  | .hbm, ⟨38, _⟩ => ⟨S589824x128, .f32⟩
  | .local _ .vmem, ⟨0, _⟩ => ⟨S2048x128, .f32⟩
  | .local _ .vmem, ⟨1, _⟩ => ⟨S2048x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S2048x128, .f32⟩
  | .local _ .vmem, ⟨11, _⟩ => ⟨S2048x128, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S288x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c : Ref sig .tc := ⟨.hbm, 30, rfl⟩
abbrev main_call0_v6 : Ref sig .tc := ⟨.hbm, 31, rfl⟩
abbrev main_call0_v7 : Ref sig .tc := ⟨.hbm, 32, rfl⟩
abbrev main_call0_c_0 : Ref sig .tc := ⟨.hbm, 33, rfl⟩
abbrev main_call0_v8 : Ref sig .tc := ⟨.hbm, 34, rfl⟩
abbrev main_v15 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v12 : Ref sig .tc := ⟨.smem, 0, rfl⟩
abbrev main_v16 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v12.idx, main_v16.idx], fun | 0 => main_v12.names | 1 => main_v16.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v14 : BitVec 1 := Scalar.cmpi .slt arg0 v0
  let v15 : BitVec 32 := Scalar.extui v14
  let c0_i32_2 : BitVec 32 := 0#32
  let v16 : BitVec 1 := Scalar.cmpi .ne v15 c0_i32_2
  v16

def k0_cond3 (i : grid0.Coords) (v0 : BitVec 32) : BitVec 1 :=
  let arg0 : BitVec 32 := BitVec.ofNat 32 (i 0).val
  let v17 : BitVec 1 := Scalar.cmpi .sge arg0 v0
  let v18 : BitVec 32 := Scalar.extui v17
  let c0_i32_3 : BitVec 32 := 0#32
  let v19 : BitVec 1 := Scalar.cmpi .ne v18 c0_i32_3
  v19

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288x256x1024 : Shape := ⟨3, ![288, 256, 1024]⟩
abbrev S32 : Shape := ⟨1, ![32]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S288 : Shape := ⟨1, ![288]⟩
abbrev S288x1 : Shape := ⟨2, ![288, 1]⟩
abbrev S_ : Shape := ⟨0, ![]⟩
abbrev S1x32 : Shape := ⟨2, ![1, 32]⟩
abbrev S288x32 : Shape := ⟨2, ![288, 32]⟩
abbrev S1x32x1024x2048 : Shape := ⟨4, ![1, 32, 1024, 2048]⟩
abbrev S32x1024x2048 : Shape := ⟨3, ![32, 1024, 2048]⟩
abbrev S288x1024x2048 : Shape := ⟨3, ![288, 1024, 2048]⟩
abbrev S288x256x2048 : Shape := ⟨3, ![288, 256, 2048]⟩
abbrev S1x32x2048 : Shape := ⟨3, ![1, 32, 2048]⟩
abbrev S32x2048 : Shape := ⟨2, ![32, 2048]⟩
abbrev S288x2048 : Shape := ⟨2, ![288, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1024 : Shape := ⟨3, ![1, 32, 1024]⟩
abbrev S32x1024 : Shape := ⟨2, ![32, 1024]⟩
abbrev S288x1024 : Shape := ⟨2, ![288, 1024]⟩
abbrev S288x1x1024 : Shape := ⟨3, ![288, 1, 1024]⟩
abbrev S1 : Shape := ⟨1, ![1]⟩
abbrev S288x1x1 : Shape := ⟨3, ![288, 1, 1]⟩
abbrev S589824x128 : Shape := ⟨2, ![589824, 128]⟩

abbrev nBuf : Space → Nat
  | .hbm => 126
  | .vmem => 0
  | .smem => 0
  | _ => 0

abbrev bufTy : (tb : Table) → Fin (tcTables nBuf tb) → BufTy
  | .hbm, ⟨0, _⟩ => ⟨S288x256x1024, .f32⟩
  | .hbm, ⟨1, _⟩ => ⟨S32, .i32⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S288, .i32⟩
  | .hbm, ⟨7, _⟩ => ⟨S288x1, .i32⟩
  | .hbm, ⟨8, _⟩ => ⟨S_, .i32⟩
  | .hbm, ⟨9, _⟩ => ⟨S288x1, .i32⟩
  | .hbm, ⟨10, _⟩ => ⟨S288x1, .i32⟩
  | .hbm, ⟨11, _⟩ => ⟨S1x32, .i32⟩
  | .hbm, ⟨12, _⟩ => ⟨S288x32, .i32⟩
  | .hbm, ⟨13, _⟩ => ⟨S288x32, .i32⟩
  | .hbm, ⟨14, _⟩ => ⟨S288x32, .i1⟩
  | .hbm, ⟨15, _⟩ => ⟨S288x32, .i32⟩
  | .hbm, ⟨16, _⟩ => ⟨S_, .i32⟩
  | .hbm, ⟨17, _⟩ => ⟨S288, .i32⟩
  | .hbm, ⟨18, _⟩ => ⟨S_, .i32⟩
  | .hbm, ⟨19, _⟩ => ⟨S288, .i32⟩
  | .hbm, ⟨20, _⟩ => ⟨S288, .i32⟩
  | .hbm, ⟨21, _⟩ => ⟨S1x32x1024x2048, .f32⟩
  | .hbm, ⟨22, _⟩ => ⟨S32x1024x2048, .f32⟩
  | .hbm, ⟨23, _⟩ => ⟨S_, .i32⟩
  | .hbm, ⟨24, _⟩ => ⟨S288, .i32⟩
  | .hbm, ⟨25, _⟩ => ⟨S288, .i1⟩
  | .hbm, ⟨26, _⟩ => ⟨S_, .i32⟩
  | .hbm, ⟨27, _⟩ => ⟨S288, .i32⟩
  | .hbm, ⟨28, _⟩ => ⟨S288, .i32⟩
  | .hbm, ⟨29, _⟩ => ⟨S288, .i32⟩
  | .hbm, ⟨30, _⟩ => ⟨S288x1, .i32⟩
  | .hbm, ⟨31, _⟩ => ⟨S288x1024x2048, .f32⟩
  | .hbm, ⟨32, _⟩ => ⟨S288x256x2048, .f32⟩
  | .hbm, ⟨33, _⟩ => ⟨S1x32x2048, .f32⟩
  | .hbm, ⟨34, _⟩ => ⟨S32x2048, .f32⟩
  | .hbm, ⟨35, _⟩ => ⟨S_, .i32⟩
  | .hbm, ⟨36, _⟩ => ⟨S288, .i32⟩
  | .hbm, ⟨37, _⟩ => ⟨S288, .i1⟩
  | .hbm, ⟨38, _⟩ => ⟨S_, .i32⟩
  | .hbm, ⟨39, _⟩ => ⟨S288, .i32⟩
  | .hbm, ⟨40, _⟩ => ⟨S288, .i32⟩
  | .hbm, ⟨41, _⟩ => ⟨S288, .i32⟩
  | .hbm, ⟨42, _⟩ => ⟨S288x1, .i32⟩
  | .hbm, ⟨43, _⟩ => ⟨S288x2048, .f32⟩
  | .hbm, ⟨44, _⟩ => ⟨S288x1x2048, .f32⟩
  | .hbm, ⟨45, _⟩ => ⟨S288x256x2048, .f32⟩
  | .hbm, ⟨46, _⟩ => ⟨S288x256x2048, .f32⟩
  | .hbm, ⟨47, _⟩ => ⟨S288x256x1024, .f32⟩
  | .hbm, ⟨48, _⟩ => ⟨S288x256x1024, .f32⟩
  | .hbm, ⟨49, _⟩ => ⟨S_, .f32⟩
  | .hbm, ⟨50, _⟩ => ⟨S288x256x1024, .f32⟩
  | .hbm, ⟨51, _⟩ => ⟨S288x256x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S288x256x1024, .f32⟩
  | .hbm, ⟨56, _⟩ => ⟨S288x256x1024, .f32⟩
  | .hbm, ⟨57, _⟩ => ⟨S_, .f32⟩
  | .hbm, ⟨58, _⟩ => ⟨S288x256x1024, .f32⟩
  | .hbm, ⟨59, _⟩ => ⟨S288x256x1024, .f32⟩
  | .hbm, ⟨60, _⟩ => ⟨S_, .f32⟩
  | .hbm, ⟨61, _⟩ => ⟨S288x256x1024, .f32⟩
  | .hbm, ⟨62, _⟩ => ⟨S288x256x1024, .f32⟩
  | .hbm, ⟨63, _⟩ => ⟨S_, .f32⟩
  | .hbm, ⟨64, _⟩ => ⟨S288x256x1024, .f32⟩
  | .hbm, ⟨65, _⟩ => ⟨S288x256x1024, .f32⟩
  | .hbm, ⟨66, _⟩ => ⟨S288x256x1024, .f32⟩
  | .hbm, ⟨67, _⟩ => ⟨S288x256x1024, .f32⟩
  | .hbm, ⟨68, _⟩ => ⟨S_, .f32⟩
  | .hbm, ⟨69, _⟩ => ⟨S288x256x1024, .f32⟩
  | .hbm, ⟨70, _⟩ => ⟨S288x256x1024, .f32⟩
  | .hbm, ⟨71, _⟩ => ⟨S_, .f32⟩
  | .hbm, ⟨72, _⟩ => ⟨S288x256x1024, .f32⟩
  | .hbm, ⟨73, _⟩ => ⟨S288x256x1024, .f32⟩
  | .hbm, ⟨74, _⟩ => ⟨S288x256x1024, .f32⟩
  | .hbm, ⟨75, _⟩ => ⟨S288x256x1024, .f32⟩
  | .hbm, ⟨76, _⟩ => ⟨S1x32x1024x1024, .f32⟩
  | .hbm, ⟨77, _⟩ => ⟨S32x1024x1024, .f32⟩
  | .hbm, ⟨78, _⟩ => ⟨S_, .i32⟩
  | .hbm, ⟨79, _⟩ => ⟨S288, .i32⟩
  | .hbm, ⟨80, _⟩ => ⟨S288, .i1⟩
  | .hbm, ⟨81, _⟩ => ⟨S_, .i32⟩
  | .hbm, ⟨82, _⟩ => ⟨S288, .i32⟩
  | .hbm, ⟨83, _⟩ => ⟨S288, .i32⟩
  | .hbm, ⟨84, _⟩ => ⟨S288, .i32⟩
  | .hbm, ⟨85, _⟩ => ⟨S288x1, .i32⟩
  | .hbm, ⟨86, _⟩ => ⟨S288x1024x1024, .f32⟩
  | .hbm, ⟨87, _⟩ => ⟨S288x256x1024, .f32⟩
  | .hbm, ⟨88, _⟩ => ⟨S1x32x1024, .f32⟩
  | .hbm, ⟨89, _⟩ => ⟨S32x1024, .f32⟩
  | .hbm, ⟨90, _⟩ => ⟨S_, .i32⟩
  | .hbm, ⟨91, _⟩ => ⟨S288, .i32⟩
  | .hbm, ⟨92, _⟩ => ⟨S288, .i1⟩
  | .hbm, ⟨93, _⟩ => ⟨S_, .i32⟩
  | .hbm, ⟨94, _⟩ => ⟨S288, .i32⟩
  | .hbm, ⟨95, _⟩ => ⟨S288, .i32⟩
  | .hbm, ⟨96, _⟩ => ⟨S288, .i32⟩
  | .hbm, ⟨97, _⟩ => ⟨S288x1, .i32⟩
  | .hbm, ⟨98, _⟩ => ⟨S288x1024, .f32⟩
  | .hbm, ⟨99, _⟩ => ⟨S288x1x1024, .f32⟩
  | .hbm, ⟨100, _⟩ => ⟨S288x256x1024, .f32⟩
  | .hbm, ⟨101, _⟩ => ⟨S288x256x1024, .f32⟩
  | .hbm, ⟨102, _⟩ => ⟨S1, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i1⟩
  | .hbm, ⟨110, _⟩ => ⟨S_, .i32⟩
  | .hbm, ⟨111, _⟩ => ⟨S_, .i32⟩
  | .hbm, ⟨112, _⟩ => ⟨S_, .i1⟩
  | .hbm, ⟨113, _⟩ => ⟨S_, .i1⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S288, .i32⟩
  | .hbm, ⟨118, _⟩ => ⟨S288, .i1⟩
  | .hbm, ⟨119, _⟩ => ⟨S288x1x1, .i1⟩
  | .hbm, ⟨120, _⟩ => ⟨S_, .f32⟩
  | .hbm, ⟨121, _⟩ => ⟨S_, .f32⟩
  | .hbm, ⟨122, _⟩ => ⟨S288x256x1024, .i1⟩
  | .hbm, ⟨123, _⟩ => ⟨S288x256x1024, .f32⟩
  | .hbm, ⟨124, _⟩ => ⟨S288x256x1024, .f32⟩
  | .hbm, ⟨125, _⟩ => ⟨S589824x128, .f32⟩
  | _, _ => ⟨S288x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_c : Ref sig .tc := ⟨.hbm, 111, rfl⟩
abbrev main_call1_v6 : Ref sig .tc := ⟨.hbm, 112, rfl⟩
abbrev main_call1_v7 : Ref sig .tc := ⟨.hbm, 113, rfl⟩
abbrev main_call1_c_0 : Ref sig .tc := ⟨.hbm, 114, rfl⟩
abbrev main_call1_v8 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_17 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v79 : Ref sig .tc := ⟨.hbm, 124, rfl⟩
abbrev main_v80 : Ref sig .tc := ⟨.hbm, 125, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x6432 : Shape := ⟨2, ![1024, 6432]⟩
abbrev S6432 : Shape := ⟨1, ![6432]⟩
abbrev S16384x1024 : Shape := ⟨2, ![16384, 1024]⟩
abbrev S1024x3072 : Shape := ⟨2, ![1024, 3072]⟩
abbrev S3072 : Shape := ⟨1, ![3072]⟩
abbrev S1x3072 : Shape := ⟨2, ![1, 3072]⟩
abbrev S16384x3072 : Shape := ⟨2, ![16384, 3072]⟩
abbrev S1024x1024 : Shape := ⟨2, ![1024, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024x6432, .f32⟩
  | .hbm, ⟨2, _⟩ => ⟨S6432, .f32⟩
  | .hbm, ⟨3, _⟩ => ⟨S16384x1024, .f32⟩
  | .hbm, ⟨4, _⟩ => ⟨S1024x3072, .f32⟩
  | .hbm, ⟨5, _⟩ => ⟨S1024x3072, .bf16⟩
  | .hbm, ⟨6, _⟩ => ⟨S3072, .f32⟩
  | .hbm, ⟨7, _⟩ => ⟨S1x3072, .f32⟩
  | .hbm, ⟨8, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x8192x1024 : Shape := ⟨3, ![2, 8192, 1024]⟩
abbrev S1024x6432 : Shape := ⟨2, ![1024, 6432]⟩
abbrev S6432 : Shape := ⟨1, ![6432]⟩
abbrev S2x8192x6432 : Shape := ⟨3, ![2, 8192, 6432]⟩
abbrev S1x1x6432 : Shape := ⟨3, ![1, 1, 6432]⟩
abbrev S2x8192x3072 : Shape := ⟨3, ![2, 8192, 3072]⟩
abbrev S_ : Shape := ⟨0, ![]⟩
abbrev S16384x3072 : Shape := ⟨2, ![16384, 3072]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x6432, .f32⟩
  | .hbm, ⟨2, _⟩ => ⟨S6432, .f32⟩
  | .hbm, ⟨3, _⟩ => ⟨S2x8192x6432, .f32⟩
  | .hbm, ⟨4, _⟩ => ⟨S1x1x6432, .f32⟩
  | .hbm, ⟨5, _⟩ => ⟨S2x8192x6432, .f32⟩
  | .hbm, ⟨6, _⟩ => ⟨S2x8192x6432, .f32⟩
  | .hbm, ⟨7, _⟩ => ⟨S2x8192x3072, .f32⟩
  | .hbm, ⟨8, _⟩ => ⟨S2x8192x3072, .f32⟩
  | .hbm, ⟨9, _⟩ => ⟨S2x8192x3072, .f32⟩
  | .hbm, ⟨10, _⟩ => ⟨S_, .f32⟩
  | .hbm, ⟨11, _⟩ => ⟨S2x8192x3072, .f32⟩
  | .hbm, ⟨12, _⟩ => ⟨S2x8192x3072, .f32⟩
  | .hbm, ⟨13, _⟩ => ⟨S_, .f32⟩
  | .hbm, ⟨14, _⟩ => ⟨S2x8192x3072, .f32⟩
  | .hbm, ⟨15, _⟩ => ⟨S2x8192x3072, .f32⟩
  | .hbm, ⟨16, _⟩ => ⟨S16384x3072, .f32⟩
  | .hbm, ⟨17, _⟩ => ⟨S16384x3072, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Prep.lean ====
/-  The arrays the host prepares for the attention call, as terms of the two arguments. -/
module

public import proofs.«01_k».proof.Proof.Gen.KernelIdeal.Frame
public import Idealize.ShloMosaic.Lib.Claim

@[expose] public section

set_option maxRecDepth 16384

noncomputable section

namespace Cert.Proof.Prep

open Cert.KernelIdeal Cert.KernelIdeal.Gen
open Idealize.ShloMosaic Idealize.ShloMosaic.TcCoe
open Idealize.SL.Sem Idealize.ShloMosaic.Tactic

variable {F : FTy → Type} [FloatOps F] [Named F]

/-- The tokens in one row each. -/
def zFlat (z : FVec F S2x8192x6432 .f32) : FVec F S16384x6432 .f32 := shapeCast S16384x6432 z shapeCasts_S2x8192x6432_S16384x6432

/-- Keys: the columns the row-major reads need. -/
def zk (z : FVec F S2x8192x6432 .f32) : FVec F S16384x1024 .bf16 :=
  truncf .bf16 (concatenate S16384x1024 1
    [⟨S16384x256, extractStridedSlice S16384x256 ![0, 1024] (zFlat z) slices_S16384x6432_S16384x256_0_1024⟩,
     ⟨S16384x128, extractStridedSlice S16384x128 ![0, 1280] (zFlat z) slices_S16384x6432_S16384x128_0_1280⟩,
     ⟨S16384x128, extractStridedSlice S16384x128 ![0, 1536] (zFlat z) slices_S16384x6432_S16384x128_0_1536⟩,
     ⟨S16384x512, extractStridedSlice S16384x512 ![0, 2328] (zFlat z) slices_S16384x6432_S16384x512_0_2328⟩]
    concatenates_S16384x256_S16384x128_S16384x128_S16384x512_S16384x1024_d1) bitsLt_bf16_f32

/-- Queries and values: the columns read feature-major, transposed. -/
def zt (z : FVec F S2x8192x6432 .f32) : FVec F S2x1792x8192 .bf16 :=
  truncf .bf16 (transpose S2x1792x8192 [0, 2, 1] (concatenate S2x8192x1792 2
    [⟨S2x8192x512, extractStridedSlice S2x8192x512 ![0, 0, 512] z slices_S2x8192x6432_S2x8192x512_0_0_512⟩,
     ⟨S2x8192x128, extractStridedSlice S2x8192x128 ![0, 0, 1408] z slices_S2x8192x6432_S2x8192x128_0_0_1408⟩,
     ⟨S2x8192x128, extractStridedSlice S2x8192x128 ![0, 0, 1664] z slices_S2x8192x6432_S2x8192x128_0_0_1664⟩,
     ⟨S2x8192x512, extractStridedSlice S2x8192x512 ![0, 0, 1816] z slices_S2x8192x6432_S2x8192x512_0_0_1816⟩,
     ⟨S2x8192x512, extractStridedSlice S2x8192x512 ![0, 0, 2840] z slices_S2x8192x6432_S2x8192x512_0_0_2840⟩]
    concatenates_S2x8192x512_S2x8192x128_S2x8192x128_S2x8192x512_S2x8192x512_S2x8192x1792_d2) transposes_S2x8192x1792_S2x1792x8192_0_2_1) bitsLt_bf16_f32

/-- The decay sums in base two. -/
def cum2 (cum : FVec F S2x8x8192 .f32) : FVec F S2x8x8192 .f32 :=
  Host.divf cum (broadcastInDim S2x8x8192 ![] bcast_S_S2x8x8192 (Host.log (constant S_ .f32 0x40000000#32)))

/-- What is left after rounding. -/
def rest (x : FVec F S2x8x8192 .f32) : FVec F S2x8x8192 .f32 := subf x (extf .f32 (truncf .bf16 x bitsLt_bf16_f32) bitsLt_bf16_f32)

/-- One part as a unit slice. -/
def part (x : FVec F S2x8x8192 .f32) : FVec F S2x8x1x8192 .bf16 :=
  broadcastInDim S2x8x1x8192 ![0, 1, 3] bcast_S2x8x8192_S2x8x1x8192_0_1_3 (truncf .bf16 x bitsLt_bf16_f32)

/-- Three parts stacked. -/
def stack3 (a b c : FVec F S2x8x8192 .f32) : FVec F S2x8x3x8192 .bf16 :=
  concatenate S2x8x3x8192 2 [⟨S2x8x1x8192, part a⟩, ⟨S2x8x1x8192, part b⟩, ⟨S2x8x1x8192, part c⟩]
    concatenates_S2x8x1x8192_S2x8x1x8192_S2x8x1x8192_S2x8x3x8192_d2

/-- The three parts of the decay sums. -/
def parts (cum : FVec F S2x8x8192 .f32) : FVec F S2x8x3x8192 .bf16 := stack3 (cum2 cum) (rest (cum2 cum)) (rest (rest (cum2 cum)))

/-- Parts over three rows of ones. -/
def overOnes (p : FVec F S2x8x3x8192 .bf16) : FVec F S2x8x6x8192 .bf16 :=
  concatenate S2x8x6x8192 2 [⟨S2x8x3x8192, p⟩, ⟨S2x8x3x8192, broadcastInDim S2x8x3x8192 ![] bcast_S_S2x8x3x8192 (constant S_ .bf16 0x3F80#16)⟩]
    concatenates_S2x8x3x8192_S2x8x3x8192_S2x8x6x8192_d2

/-- Which heads are even, by head. -/
def evenHead : IVec S1x8x1x1 1 := broadcastInDim S1x8x1x1 ![1] bcast_S8_S1x8x1x1_1 (fun i => lit0 (S8.rowMajor i))

/-- Which heads are even. -/
def isEven : IVec S2x8x6x8192 1 := broadcastInDim S2x8x6x8192 ![0, 1, 2, 3] bcast_S1x8x1x1_S2x8x6x8192_0_1_2_3 evenHead

/-- Six rows of zeros. -/
def zero6 : FVec F S2x8x6x8192 .bf16 := broadcastInDim S2x8x6x8192 ![] bcast_S_S2x8x6x8192 (constant S_ .bf16 0x0000#16)

/-- Two blocks of six rows over four rows of zeros. -/
def rows16 (a b : FVec F S2x8x6x8192 .bf16) : FVec F S2x8x16x8192 .bf16 :=
  concatenate S2x8x16x8192 2
    [⟨S2x8x6x8192, a⟩, ⟨S2x8x6x8192, b⟩, ⟨S2x8x4x8192, broadcastInDim S2x8x4x8192 ![] bcast_S_S2x8x4x8192 (constant S_ .bf16 0x0000#16)⟩]
    concatenates_S2x8x6x8192_S2x8x6x8192_S2x8x4x8192_S2x8x16x8192_d2

/-- The sixteen bias rows of the queries. -/
def augq (cum : FVec F S2x8x8192 .f32) : FVec F S2x8x16x8192 .bf16 :=
  rows16 (select isEven (overOnes (parts cum)) zero6) (select isEven zero6 (overOnes (parts cum)))

/-- Parts by head pair, token-major. -/
def ckOf (p : FVec F S2x8x3x8192 .bf16) : FVec F S2x4x2x8192x3 .bf16 :=
  shapeCast S2x4x2x8192x3 (transpose S2x8x8192x3 [0, 1, 3, 2] p transposes_S2x8x3x8192_S2x8x8192x3_0_1_3_2) shapeCasts_S2x8x8192x3_S2x4x2x8192x3

/-- Three columns of ones. -/
def ones3 : FVec F S2x4x8192x3 .bf16 := broadcastInDim S2x4x8192x3 ![] bcast_S_S2x4x8192x3 (constant S_ .bf16 0x3F80#16)

/-- The bias columns of the keys, from the parts. -/
def augkOf (p : FVec F S2x8x3x8192 .bf16) : FVec F S2x4x8192x128 .bf16 :=
  concatenate S2x4x8192x128 3
    [⟨S2x4x8192x3, ones3⟩,
     ⟨S2x4x8192x3, Host.negf (shapeCast S2x4x8192x3 (extractStridedSlice S2x4x1x8192x3 ![0, 0, 0, 0, 0] (ckOf p) slices_S2x4x2x8192x3_S2x4x1x8192x3_0_0_0_0_0) shapeCasts_S2x4x1x8192x3_S2x4x8192x3)⟩,
     ⟨S2x4x8192x3, ones3⟩,
     ⟨S2x4x8192x3, Host.negf (shapeCast S2x4x8192x3 (extractStridedSlice S2x4x1x8192x3 ![0, 0, 1, 0, 0] (ckOf p) slices_S2x4x2x8192x3_S2x4x1x8192x3_0_0_1_0_0) shapeCasts_S2x4x1x8192x3_S2x4x8192x3)⟩,
     ⟨S2x4x8192x116, broadcastInDim S2x4x8192x116 ![] bcast_S_S2x4x8192x116 (constant S_ .bf16 0x0000#16)⟩]
    concatenates_S2x4x8192x3_S2x4x8192x3_S2x4x8192x3_S2x4x8192x3_S2x4x8192x116_S2x4x8192x128_d3

/-- The bias columns of the keys. -/
def augk (cum : FVec F S2x8x8192 .f32) : FVec F S2x4x8192x128 .bf16 := augkOf (parts cum)

/-- The contents after two lines of operations: after the second, from what the first left. -/
theorem after_two {τ : Topo} {sig : RefSig} {Val : EltTy → Type} (l l' : List (HloOp τ sig Val)) (W : Valuation τ sig Val) :
    StableHlo.after (l ++ l') W = StableHlo.after l' (StableHlo.after l W) := by
  induction l generalizing W with
  | nil => rfl
  | cons op l ih => exact ih _

section Lines

variable (W : Valuation τ sig (Elt F))

theorem line4_v48 : StableHlo.after hostOps0_4 W (main_v48 : DevRef τ sig) = augkOf (W (main_v29 : DevRef τ sig)) := by
  after_results
  rfl

theorem line4_v37 : StableHlo.after hostOps0_4 W (main_v37 : DevRef τ sig) = rows16 (W (main_v33 : DevRef τ sig)) (W (main_v35 : DevRef τ sig)) := by
  after_results
  rfl

theorem line3_v35 : StableHlo.after hostOps0_3 W (main_v35 : DevRef τ sig)
    = select (broadcastInDim S2x8x6x8192 ![0, 1, 2, 3] bcast_S1x8x1x1_S2x8x6x8192_0_1_2_3 (W (main_v0 : DevRef τ sig))) (W (main_v31 : DevRef τ sig)) (W (main_v34 : DevRef τ sig)) := by
  simp only [hostOps0_3, StableHlo.TRef.ternary, StableHlo.TRef.unary, StableHlo.TRef.toBuf, StableHlo.TRef.ofBuf, cast_eq]
  after_results

theorem line3_v33 : StableHlo.after hostOps0_3 W (main_v33 : DevRef τ sig) = W (main_v33 : DevRef τ sig) := by
  simp only [hostOps0_3, StableHlo.TRef.ternary, StableHlo.TRef.unary, StableHlo.TRef.toBuf, StableHlo.TRef.ofBuf, cast_eq]
  after_results

theorem line3_v29 : StableHlo.after hostOps0_3 W (main_v29 : DevRef τ sig) = W (main_v29 : DevRef τ sig) := by
  simp only [hostOps0_3, StableHlo.TRef.ternary, StableHlo.TRef.unary, StableHlo.TRef.toBuf, StableHlo.TRef.ofBuf, cast_eq]
  after_results

theorem line2_v34 : StableHlo.after hostOps0_2 W (main_v34 : DevRef τ sig)
    = concatenate S2x8x6x8192 2 [⟨S2x8x3x8192, W (main_v29 : DevRef τ sig)⟩, ⟨S2x8x3x8192, W (main_v30 : DevRef τ sig)⟩] concatenates_S2x8x3x8192_S2x8x3x8192_S2x8x6x8192_d2 := by
  after_results

theorem line2_v0 : StableHlo.after hostOps0_2 W (main_v0 : DevRef τ sig) = W (main_v0 : DevRef τ sig) := by
  after_results

theorem line2_v29 : StableHlo.after hostOps0_2 W (main_v29 : DevRef τ sig) = W (main_v29 : DevRef τ sig) := by
  after_results

theorem line2_v31 : StableHlo.after hostOps0_2 W (main_v31 : DevRef τ sig) = W (main_v31 : DevRef τ sig) := by
  after_results

theorem line2_v33 : StableHlo.after hostOps0_2 W (main_v33 : DevRef τ sig) = W (main_v33 : DevRef τ sig) := by
  after_results

theorem line1_v33 : StableHlo.after hostOps0_1 W (main_v33 : DevRef τ sig)
    = select (broadcastInDim S2x8x6x8192 ![0, 1, 2, 3] bcast_S1x8x1x1_S2x8x6x8192_0_1_2_3 (W (main_v0 : DevRef τ sig))) (W (main_v32 : DevRef τ sig)) (W (main_v31 : DevRef τ sig)) := by
  simp only [hostOps0_1, StableHlo.TRef.ternary, StableHlo.TRef.unary, StableHlo.TRef.toBuf, StableHlo.TRef.ofBuf, cast_eq]
  after_results

theorem line1_v0 : StableHlo.after hostOps0_1 W (main_v0 : DevRef τ sig) = W (main_v0 : DevRef τ sig) := by
  simp only [hostOps0_1, StableHlo.TRef.ternary, StableHlo.TRef.unary, StableHlo.TRef.toBuf, StableHlo.TRef.ofBuf, cast_eq]
  after_results

theorem line1_v29 : StableHlo.after hostOps0_1 W (main_v29 : DevRef τ sig) = W (main_v29 : DevRef τ sig) := by
  simp only [hostOps0_1, StableHlo.TRef.ternary, StableHlo.TRef.unary, StableHlo.TRef.toBuf, StableHlo.TRef.ofBuf, cast_eq]
  after_results

theorem line1_v30 : StableHlo.after hostOps0_1 W (main_v30 : DevRef τ sig) = W (main_v30 : DevRef τ sig) := by
  simp only [hostOps0_1, StableHlo.TRef.ternary, StableHlo.TRef.unary, StableHlo.TRef.toBuf, StableHlo.TRef.ofBuf, cast_eq]
  after_results

theorem line1_v31 : StableHlo.after hostOps0_1 W (main_v31 : DevRef τ sig) = W (main_v31 : DevRef τ sig) := by
  simp only [hostOps0_1, StableHlo.TRef.ternary, StableHlo.TRef.unary, StableHlo.TRef.toBuf, StableHlo.TRef.ofBuf, cast_eq]
  after_results

/-- The first line up to the decay sums in units of `log 2`. -/
theorem head_v18 : StableHlo.after (hostOps0.take 21) W (main_v18 : DevRef τ sig) = cum2 (W (main_arg1 : DevRef τ sig)) := by
  simp only [hostOps0, List.take]
  after_results
  rfl

theorem head_v0 : StableHlo.after (hostOps0.take 21) W (main_v0 : DevRef τ sig) = evenHead := by
  simp only [hostOps0, List.take]
  after_results
  rfl

theorem head_v7 : StableHlo.after (hostOps0.take 21) W (main_v7 : DevRef τ sig) = zk (W (main_arg0 : DevRef τ sig)) := by
  simp only [hostOps0, List.take]
  after_results
  rfl

theorem head_v15 : StableHlo.after (hostOps0.take 21) W (main_v15 : DevRef τ sig) = zt (W (main_arg0 : DevRef τ sig)) := by
  simp only [hostOps0, List.take]
  after_results
  rfl

/-- The first line from the decay sums on. -/
theorem tail_v29 : StableHlo.after (hostOps0.drop 21) W (main_v29 : DevRef τ sig)
    = stack3 (W (main_v18 : DevRef τ sig)) (rest (W (main_v18 : DevRef τ sig))) (rest (rest (W (main_v18 : DevRef τ sig)))) := by
  simp only [hostOps0, List.drop]
  after_results
  rfl

theorem tail_v30 : StableHlo.after (hostOps0.drop 21) W (main_v30 : DevRef τ sig) = broadcastInDim S2x8x3x8192 ![] bcast_S_S2x8x3x8192 (constant S_ .bf16 0x3F80#16) := by
  simp only [hostOps0, List.drop]
  after_results

theorem tail_v31 : StableHlo.after (hostOps0.drop 21) W (main_v31 : DevRef τ sig) = zero6 := by
  simp only [hostOps0, List.drop]
  after_results
  rfl

theorem tail_v32 : StableHlo.after (hostOps0.drop 21) W (main_v32 : DevRef τ sig)
    = overOnes (stack3 (W (main_v18 : DevRef τ sig)) (rest (W (main_v18 : DevRef τ sig))) (rest (rest (W (main_v18 : DevRef τ sig))))) := by
  simp only [hostOps0, List.drop]
  after_results
  rfl

theorem tail_v0 : StableHlo.after (hostOps0.drop 21) W (main_v0 : DevRef τ sig) = W (main_v0 : DevRef τ sig) := by
  simp only [hostOps0, List.drop]
  after_results

theorem tail_v7 : StableHlo.after (hostOps0.drop 21) W (main_v7 : DevRef τ sig) = W (main_v7 : DevRef τ sig) := by
  simp only [hostOps0, List.drop]
  after_results

theorem line4_v7 : StableHlo.after hostOps0_4 W (main_v7 : DevRef τ sig) = W (main_v7 : DevRef τ sig) := by
  after_results

theorem line3_v7 : StableHlo.after hostOps0_3 W (main_v7 : DevRef τ sig) = W (main_v7 : DevRef τ sig) := by
  simp only [hostOps0_3, StableHlo.TRef.ternary, StableHlo.TRef.unary, StableHlo.TRef.toBuf, StableHlo.TRef.ofBuf, cast_eq]
  after_results

theorem line2_v7 : StableHlo.after hostOps0_2 W (main_v7 : DevRef τ sig) = W (main_v7 : DevRef τ sig) := by
  after_results

theorem line1_v7 : StableHlo.after hostOps0_1 W (main_v7 : DevRef τ sig) = W (main_v7 : DevRef τ sig) := by
  simp only [hostOps0_1, StableHlo.TRef.ternary, StableHlo.TRef.unary, StableHlo.TRef.toBuf, StableHlo.TRef.ofBuf, cast_eq]
  after_results

theorem tail_v15 : StableHlo.after (hostOps0.drop 21) W (main_v15 : DevRef τ sig) = W (main_v15 : DevRef τ sig) := by
  simp only [hostOps0, List.drop]
  after_results

theorem line4_v15 : StableHlo.after hostOps0_4 W (main_v15 : DevRef τ sig) = W (main_v15 : DevRef τ sig) := by
  after_results

theorem line3_v15 : StableHlo.after hostOps0_3 W (main_v15 : DevRef τ sig) = W (main_v15 : DevRef τ sig) := by
  simp only [hostOps0_3, StableHlo.TRef.ternary, StableHlo.TRef.unary, StableHlo.TRef.toBuf, StableHlo.TRef.ofBuf, cast_eq]
  after_results

theorem line2_v15 : StableHlo.after hostOps0_2 W (main_v15 : DevRef τ sig) = W (main_v15 : DevRef τ sig) := by
  after_results

theorem line1_v15 : StableHlo.after hostOps0_1 W (main_v15 : DevRef τ sig) = W (main_v15 : DevRef τ sig) := by
  simp only [hostOps0_1, StableHlo.TRef.ternary, StableHlo.TRef.unary, StableHlo.TRef.toBuf, StableHlo.TRef.ofBuf, cast_eq]
  after_results

end Lines

variable (m : (ℓ : Loc nD τ sig) → Buf (Elt F) ℓ) (c : Dev nD)

/-- The contents at the call, line by line. -/
theorem V_eq (b : Ref sig .tc) : V m c b = StableHlo.after hostOps0_4 (StableHlo.after hostOps0_3 (StableHlo.after hostOps0_2 (StableHlo.after hostOps0_1
    (StableHlo.after (hostOps0.drop 21) (StableHlo.after (hostOps0.take 21) (fun b => m (c, b))))))) b := by
  unfold V
  rw [show (List.flatten [hostOps0, hostOps0_1, hostOps0_2, hostOps0_3, hostOps0_4] : List (HloOp τ sig (Elt F)))
      = hostOps0.take 21 ++ (hostOps0.drop 21 ++ (hostOps0_1 ++ (hostOps0_2 ++ (hostOps0_3 ++ hostOps0_4)))) from by rfl]
  simp only [after_two]

/-- The call finds the keys. -/
theorem V_zk : V m c main_v7 = zk (m (c, (main_arg0 : DevRef τ sig))) := by
  rw [V_eq, line4_v7, line3_v7, line2_v7, line1_v7, tail_v7, head_v7]

/-- The call finds the queries and values. -/
theorem V_zt : V m c main_v15 = zt (m (c, (main_arg0 : DevRef τ sig))) := by
  rw [V_eq, line4_v15, line3_v15, line2_v15, line1_v15, tail_v15, head_v15]

/-- The call finds the bias rows of the queries. -/
theorem V_augq : V m c main_v37 = augq (m (c, (main_arg1 : DevRef τ sig))) := by
  rw [V_eq, line4_v37, line3_v33, line3_v35, line2_v33, line2_v34, line2_v0, line2_v31, line1_v33, line1_v29, line1_v30, line1_v0, line1_v31,
    tail_v0, tail_v32, tail_v31, tail_v29, tail_v30, head_v0, head_v18]
  rfl

/-- The call finds the bias columns of the keys. -/
theorem V_augk : V m c main_v48 = augk (m (c, (main_arg1 : DevRef τ sig))) := by
  rw [V_eq, line4_v48, line3_v29, line2_v29, line1_v29, tail_v29, head_v18]
  rfl

end Cert.Proof.Prep
-- ==== Proof.Spec.lean ====
/-  The attention with decay as real numbers: what both programs compute where the arguments are finite. -/
module

public import proofs.«01_k».proof.KernelIdeal
public import Idealize.ShloMosaic.Lib.Pointwise

@[expose] public section

noncomputable section

open scoped BigOperators

namespace Cert.Proof.Spec

open Idealize.ShloMosaic

/-- The token features. -/
abbrev ZShape : Shape := ⟨3, ![2, 8192, 6432]⟩
/-- The decay sums. -/
abbrev CShape : Shape := ⟨3, ![2, 8, 8192]⟩

variable (z : FVec Ideal ZShape .f32) (cum : FVec Ideal CShape .f32)

/-- Feature `col` of token `t` of sequence `b`, as a real number. -/
def zr (b : Fin 2) (t col : ℕ) : ℝ :=
  (z (ix3 b ⟨t % 8192, Nat.mod_lt _ (by decide)⟩ ⟨col % 6432, Nat.mod_lt _ (by decide)⟩)).toReal

/-- The decay sum of head `h` at token `t`, as a real number. -/
def cr (b : Fin 2) (h t : ℕ) : ℝ :=
  (cum (ix3 b ⟨h % 8, Nat.mod_lt _ (by decide)⟩ ⟨t % 8192, Nat.mod_lt _ (by decide)⟩)).toReal

/-- The score of query `q` against key `k` in head `h`. -/
def score (b : Fin 2) (h q k : ℕ) : ℝ :=
  (∑ d : Fin 64, zr z b q (1816 + 64 * h + d.val) * zr z b k (2328 + 64 * h + d.val)) * (1 / 8) + cr cum b h q - cr cum b h k

/-- Feature `d` of head `h` at query `q`: the values of the keys up to `q`, weighted by the softmax of the scores. -/
def attn (b : Fin 2) (h d q : ℕ) : ℝ :=
  (∑ k : Fin 8192, if k.val ≤ q then Real.exp (score z cum b h q k.val) * zr z b k.val (2840 + 64 * h + d) else 0)
    / (∑ k : Fin 8192, if k.val ≤ q then Real.exp (score z cum b h q k.val) else 0)

/-- The columns the attention reads hold real numbers, and so do the decay sums. -/
structure Finite : Prop where
  z : ∀ (b : Fin 2) (t col : ℕ) (ht : t < 8192) (_ : 1816 ≤ col) (h2 : col < 3352), z (ix3 b ⟨t, ht⟩ ⟨col, by omega⟩) = ((zr z b t col : ℝ) : EReal)
  cum : ∀ (b : Fin 2) (h t : ℕ) (hh : h < 8) (ht : t < 8192), cum (ix3 b ⟨h, hh⟩ ⟨t, ht⟩) = ((cr cum b h t : ℝ) : EReal)

end Cert.Proof.Spec
-- ==== Proof.PrepValue.lean ====
/-  The arrays the host prepares, read at an element. -/
module

public import proofs.«01_k».proof.Proof.Prep
public import proofs.«01_k».proof.Proof.Spec

@[expose] public section

set_option maxRecDepth 16384

noncomputable section

namespace Cert.Proof.PrepValue

open Cert.KernelIdeal Cert.KernelIdeal.Gen Cert.Proof.Prep Cert.Proof.Spec
open Idealize.ShloMosaic

variable (z : FVec Ideal S2x8192x6432 .f32) (cum : FVec Ideal S2x8x8192 .f32)

/-- The key columns. -/
theorem zk_apply (b : Fin 2) (t : Fin 8192) (r : Fin 512) :
    zk (F := Ideal) z (ix2 ⟨8192 * b.val + t.val, by omega⟩ ⟨512 + r.val, by omega⟩) = (z (ix3 b t ⟨2328 + r.val, by omega⟩) : EReal) := by
  pointwise [zk, zFlat]
  rw [dif_neg (by omega), dif_neg (by omega), dif_neg (by omega)]
  exact congrArg (fun k => z (ix3 b t k)) (Fin.ext (by simp; omega))

/-- The query rows. -/
theorem zt_query (b : Fin 2) (t : Fin 8192) (r : Fin 512) :
    zt (F := Ideal) z (ix3 b ⟨768 + r.val, by omega⟩ t) = (z (ix3 b t ⟨1816 + r.val, by omega⟩) : EReal) := by
  pointwise [zt]
  rw [dif_neg (by omega), dif_neg (by omega), dif_neg (by omega), dif_pos (by omega)]
  exact congrArg (fun k => z (ix3 b t k)) (Fin.ext (by simp; omega))

/-- The value rows. -/
theorem zt_value (b : Fin 2) (t : Fin 8192) (r : Fin 512) :
    zt (F := Ideal) z (ix3 b ⟨1280 + r.val, by omega⟩ t) = (z (ix3 b t ⟨2840 + r.val, by omega⟩) : EReal) := by
  pointwise [zt]
  rw [dif_neg (by omega), dif_neg (by omega), dif_neg (by omega), dif_neg (by omega)]
  exact congrArg (fun k => z (ix3 b t k)) (Fin.ext (by simp; omega))

/-- Three parts stacked, by row. -/
theorem stack3_apply (x y w : FVec Ideal S2x8x8192 .f32) (b : Fin 2) (h : Fin 8) (r : Fin 3) (t : Fin 8192) :
    stack3 x y w (ix4 b h r t) = if r.val = 0 then (x (ix3 b h t) : EReal) else if r.val = 1 then y (ix3 b h t) else w (ix3 b h t) := by
  pointwise [stack3, part]
  by_cases h0 : r.val = 0
  · rw [dif_pos (by omega), if_pos h0]
  · rw [dif_neg (by omega), if_neg h0]
    by_cases h1 : r.val = 1
    · rw [dif_pos (by omega), if_pos h1]
    · rw [dif_neg (by omega), if_neg h1]

/-- Parts over ones, by row. -/
theorem overOnes_apply (p : FVec Ideal S2x8x3x8192 .bf16) (b : Fin 2) (h : Fin 8) (r : Fin 6) (t : Fin 8192) :
    overOnes p (ix4 b h r t) = if hr : r.val < 3 then (p (ix4 b h ⟨r.val, hr⟩ t) : EReal) else 1 := by
  pointwise [overOnes]

/-- The even heads. -/
theorem isEven_apply (b : Fin 2) (h : Fin 8) (r : Fin 6) (t : Fin 8192) :
    isEven (ix4 b h r t) = BitVec.ofBool (decide (h.val % 2 = 0)) := by
  pointwise [isEven, evenHead]
  exact (by decide +kernel : ∀ h : Fin 8, lit0 (S8.rowMajor (ix1 h)) = BitVec.ofBool (decide (h.val % 2 = 0))) h

/-- Two blocks of six rows over four of zeros, by row. -/
theorem rows16_apply (x y : FVec Ideal S2x8x6x8192 .bf16) (b : Fin 2) (h : Fin 8) (r : Fin 16) (t : Fin 8192) :
    rows16 x y (ix4 b h r t) = if hr : r.val < 6 then (x (ix4 b h ⟨r.val, hr⟩ t) : EReal) else if hr : r.val < 12 then y (ix4 b h ⟨r.val - 6, by omega⟩ t) else 0 := by
  pointwise [rows16]
  by_cases h0 : r.val < 6
  · rw [dif_pos h0, dif_pos h0]
  · rw [dif_neg h0, dif_neg h0]
    by_cases h1 : r.val < 12
    · rw [dif_pos (by omega), dif_pos h1]
    · rw [dif_neg (by omega), dif_neg h1]

/-- The bias columns of the keys, by column. -/
theorem augkOf_apply (p : FVec Ideal S2x8x3x8192 .bf16) (b : Fin 2) (q : Fin 4) (t : Fin 8192) (k : Fin 12) :
    augkOf p (ix4 b q t ⟨k.val, by omega⟩) = if k.val < 3 then (1 : EReal) else if k.val < 6 then -p (ix4 b ⟨2 * q.val, by omega⟩ ⟨(k.val - 3) % 3, by omega⟩ t)
      else if k.val < 9 then 1 else -p (ix4 b ⟨2 * q.val + 1, by omega⟩ ⟨(k.val - 9) % 3, by omega⟩ t) := by
  pointwise [augkOf, ones3, ckOf]
  by_cases h0 : k.val < 3
  · rw [dif_pos h0, if_pos h0]
  · rw [dif_neg h0, if_neg h0]
    by_cases h1 : k.val < 6
    · rw [dif_pos (by omega), if_pos h1]
      refine congrArg (fun x : EReal => -x) (congrArg₂ (fun a c => p (ix4 b a c t)) (Fin.ext (by simp; omega)) (Fin.ext (by simp; omega)))
    · rw [dif_neg (by omega), if_neg h1]
      by_cases h2 : k.val < 9
      · rw [dif_pos (by omega), if_pos h2]
      · rw [dif_neg (by omega), if_neg h2, dif_pos (by omega)]
        refine congrArg (fun x : EReal => -x) (congrArg₂ (fun a c => p (ix4 b a c t)) (Fin.ext (by simp; omega)) (Fin.ext (by simp; omega)))

/-- The bias columns past the twelfth are zero. -/
theorem augkOf_zero (p : FVec Ideal S2x8x3x8192 .bf16) (b : Fin 2) (q : Fin 4) (t : Fin 8192) (k : Fin 128) (hk : 12 ≤ k.val) :
    augkOf p (ix4 b q t k) = (0 : EReal) := by
  pointwise [augkOf, ones3, ckOf]
  rw [dif_neg (by omega), dif_neg (by omega), dif_neg (by omega), dif_neg (by omega)]

/-- What is left of a real number after rounding: nothing. -/
theorem rest_apply (x : FVec Ideal S2x8x8192 .f32) (b : Fin 2) (h : Fin 8) (t : Fin 8192) (r : ℝ) (hx : x (ix3 b h t) = (r : EReal)) :
    rest x (ix3 b h t) = (0 : EReal) := by
  pointwise [rest]
  rw [hx, ← EReal.coe_sub, sub_self]
  rfl

/-- The decay sum of head `h` at token `t` in units of `log 2`, as a real number. -/
def cl (b : Fin 2) (h t : ℕ) : ℝ := cr cum b h t * (Real.log 2)⁻¹

/-- Row `r` of the parts of `p` over ones. -/
def sixRow (p : ℝ) (r : ℕ) : ℝ := if r = 0 then p else if r < 3 then 0 else 1

/-- Row `r` of a query's bias rows: the parts over ones in the first six rows of an even head, in the next six of an odd one. -/
def qRow (even : Prop) [Decidable even] (p : ℝ) (r : ℕ) : ℝ :=
  if even then (if r < 6 then sixRow p r else 0) else if r < 6 then 0 else if r < 12 then sixRow p (r - 6) else 0

/-- Column `r` of a key's bias columns: ones and the negated parts of the pair's even head, then of its odd head. -/
def kCol (pe po : ℝ) (r : ℕ) : ℝ :=
  if r < 3 then 1 else if r < 6 then -(if r = 3 then pe else 0) else if r < 9 then 1 else if r < 12 then -(if r = 9 then po else 0) else 0

/-- The bias rows against the bias columns: the decay difference of the head. -/
theorem bias_sum (even : Prop) [Decidable even] (p pe po : ℝ) :
    ∑ c : Fin 16, kCol pe po c.val * qRow even p c.val = p - if even then pe else po := by
  by_cases h : even <;> simp [Fin.sum_univ_succ, kCol, qRow, sixRow, h] <;> ring

section Real

variable (hf : Spec.Finite z cum)
include hf

/-- The decay sums in units of `log 2`. -/
theorem cum2_apply (b : Fin 2) (h : Fin 8) (t : Fin 8192) : cum2 cum (ix3 b h t) = ((cl cum b h.val t.val : ℝ) : EReal) := by
  have h2 : Ideal.ofBits FTy.f32 1073741824#32 = ((2 : ℝ) : EReal) := by
    simp [Ideal.ofBits, Ideal.ieee, -EReal.coe_mul]
    norm_num
  have hl : Real.log 2 ≠ 0 := (Real.log_pos (by norm_num)).ne'
  pointwise [cum2]
  rw [h2, hf.cum b h.val t.val h.isLt t.isLt]
  have hlog : Ideal.log ((2 : ℝ) : EReal) = ((Real.log 2 : ℝ) : EReal) := by
    show (if (2 : ℝ) ≤ 0 then (⊥ : EReal) else ((Real.log 2 : ℝ) : EReal)) = _
    rw [if_neg (by norm_num)]
  rw [hlog]
  unfold Ideal.div cl
  rw [if_neg (by simpa using hl), ← EReal.coe_inv, ← EReal.coe_mul]

/-- The parts of the decay sums: all in the first. -/
theorem parts_apply (b : Fin 2) (h : Fin 8) (r : Fin 3) (t : Fin 8192) :
    parts cum (ix4 b h r t) = ((if r.val = 0 then cl cum b h.val t.val else 0 : ℝ) : EReal) := by
  have h0 := cum2_apply z cum hf b h t
  have h1 := rest_apply (cum2 cum) b h t _ h0
  have h2 := rest_apply (rest (cum2 cum)) b h t 0 h1
  unfold parts
  rw [stack3_apply, h0, h1, h2]
  split_ifs <;> rfl

/-- The parts over ones. -/
theorem partsOnes_apply (b : Fin 2) (h : Fin 8) (r : Fin 6) (t : Fin 8192) :
    overOnes (parts cum) (ix4 b h r t) = ((sixRow (cl cum b h.val t.val) r.val : ℝ) : EReal) := by
  rw [overOnes_apply]
  unfold sixRow
  by_cases hr : r.val < 3
  · rw [dif_pos hr, parts_apply z cum hf]
    simp only [hr, if_true]
  · rw [dif_neg hr, if_neg (by omega), if_neg hr]
    rfl

/-- The bias rows of the queries. -/
theorem augq_apply (b : Fin 2) (h : Fin 8) (r : Fin 16) (t : Fin 8192) :
    augq cum (ix4 b h r t) = ((qRow (h.val % 2 = 0) (cl cum b h.val t.val) r.val : ℝ) : EReal) := by
  have hz : ∀ r : Fin 6, zero6 (F := Ideal) (ix4 b h r t) = ((0 : ℝ) : EReal) := fun r => by
    pointwise [zero6]
    rfl
  unfold augq qRow
  rw [rows16_apply]
  simp only [select, isEven_apply, partsOnes_apply z cum hf, hz]
  have t1 : (BitVec.ofBool true = 1) = True := by decide
  have t0 : (BitVec.ofBool false = 1) = False := by decide
  by_cases he : h.val % 2 = 0
  · simp only [he, if_true, decide_true, Scalar.select, t1]
    split_ifs <;> simp
  · simp only [he, if_false, decide_false, Scalar.select, t0]
    split_ifs <;> simp

/-- The bias columns of the keys. -/
theorem augk_apply (b : Fin 2) (q : Fin 4) (t : Fin 8192) (k : Fin 16) :
    augk cum (ix4 b q t ⟨k.val, by omega⟩) = ((kCol (cl cum b (2 * q.val) t.val) (cl cum b (2 * q.val + 1) t.val) k.val : ℝ) : EReal) := by
  unfold augk kCol
  by_cases hk : k.val < 12
  · rw [augkOf_apply _ b q t ⟨k.val, hk⟩, parts_apply z cum hf, parts_apply z cum hf]
    simp only
    by_cases h0 : k.val < 3
    · simp only [h0, if_true]; rfl
    by_cases h1 : k.val < 6
    · simp only [h0, h1, if_true, if_false]
      rw [← EReal.coe_neg]
      congr 2
      exact if_congr (by omega) rfl rfl
    by_cases h2 : k.val < 9
    · simp only [h0, h1, h2, if_true, if_false]; rfl
    · simp only [h0, h1, h2, hk, if_true, if_false]
      rw [← EReal.coe_neg]
      congr 2
      exact if_congr (by omega) rfl rfl
  · rw [augkOf_zero _ b q t ⟨k.val, by omega⟩ (by simp; omega)]
    rw [if_neg (by omega), if_neg (by omega), if_neg (by omega), if_neg hk]
    rfl

end Real

end Cert.Proof.PrepValue
-- ==== Proof.Block.lean ====
/-  One grid point of the attention call, head by head: the loads of a chunk of keys, the step of the running softmax each
    head takes, and the state after `k` chunks. Every head runs the same step, so the printed body is four copies of one. -/
module

public import proofs.«01_k».proof.Proof.Gen.KernelIdeal.Frame
public import Idealize.ShloMosaic.Lib.Pipeline.ValueKit.Tiles
public import Idealize.ShloMosaic.Lib.Pipeline.Value

@[expose] public section

set_option maxRecDepth 16384

noncomputable section

namespace Cert.Proof.Block

open Cert.KernelIdeal Cert.KernelIdeal.Gen
open Idealize.ShloMosaic Idealize.ShloMosaic.TcCoe
open Idealize.SL.Sem Idealize.ShloMosaic.Tactic

variable {F : FTy → Type} [FloatOps F] [Named F]

/-- Rows `o .. o+511` of the keys, the 128 lanes of head pair `p`. -/
def kRows (x : Vec F S8192x256 .bf16) (p o : ℕ) : Vec F S512x128 .bf16 := fun j =>
  x (fun a => match a with
    | ⟨0, _⟩ => ⟨(o + (j 0).val) % 8192, Nat.mod_lt _ (by decide)⟩
    | ⟨1, _⟩ => ⟨(128 * p + (j 1).val) % 256, Nat.mod_lt _ (by decide)⟩)

/-- Rows `o .. o+511` of the bias columns of head pair `p`. -/
def aRows (x : Vec F S1x2x8192x128 .bf16) (p o : ℕ) : Vec F S1x1x512x128 .bf16 := fun j =>
  x (fun a => match a with
    | ⟨0, _⟩ => ⟨0, Nat.one_pos⟩
    | ⟨1, _⟩ => ⟨p % 2, Nat.mod_lt _ (by decide)⟩
    | ⟨2, _⟩ => ⟨(o + (j 2).val) % 8192, Nat.mod_lt _ (by decide)⟩
    | ⟨3, _⟩ => ⟨(j 3).val, (j 3).isLt⟩)

/-- Columns `o .. o+511` of the values of head `h`. -/
def vCols (x : Vec F S1x256x8192 .bf16) (h o : ℕ) : Vec F S1x64x512 .bf16 := fun j =>
  x (fun a => match a with
    | ⟨0, _⟩ => ⟨0, Nat.one_pos⟩
    | ⟨1, _⟩ => ⟨(64 * h + (j 1).val) % 256, Nat.mod_lt _ (by decide)⟩
    | ⟨2, _⟩ => ⟨(o + (j 2).val) % 8192, Nat.mod_lt _ (by decide)⟩)

/-- The 64 query rows of head `h`. -/
def qRows (x : Vec F S1x256x512 .bf16) (h : ℕ) : Vec F S1x64x512 .bf16 := fun j =>
  x (fun a => match a with
    | ⟨0, _⟩ => ⟨0, Nat.one_pos⟩
    | ⟨1, _⟩ => ⟨(64 * h + (j 1).val) % 256, Nat.mod_lt _ (by decide)⟩
    | ⟨2, _⟩ => ⟨(j 2).val, (j 2).isLt⟩)

/-- The 16 bias rows of the queries of head `h`. -/
def gRows (x : Vec F S1x4x16x512 .bf16) (h : ℕ) : Vec F S1x1x16x512 .bf16 := fun j =>
  x (fun a => match a with
    | ⟨0, _⟩ => ⟨0, Nat.one_pos⟩
    | ⟨1, _⟩ => ⟨h % 4, Nat.mod_lt _ (by decide)⟩
    | ⟨2, _⟩ => ⟨(j 2).val, (j 2).isLt⟩
    | ⟨3, _⟩ => ⟨(j 3).val, (j 3).isLt⟩)

/-- What a head carries: the maximum of each query and the rescaled sums. -/
abbrev Carry (F : FTy → Type) := FVec F S1x512 .f32 × FVec F S80x512 .f32

/-- The scores of a chunk: keys times queries. -/
def scores (qt : FVec F S256x512 .bf16) (ka : FVec F S512x256 .bf16) : FVec F S512x512 .f32 :=
  matmul dot_S512x256_S256x512_S512x512_1_0_0_1_n_n none ka qt (constant S512x512 .f32 0x00000000#32)

/-- Which keys of the chunk on the diagonal a query sees: those not after it. -/
def causal : IVec S512x512 1 :=
  cmpi .sle (iota .tc S512x512 32 [0] iota_S512x512_d0_w32) (iota .tc S512x512 32 [1] iota_S512x512_d1_w32)

/-- Scores of the chunk on the diagonal, the unseen keys at the mask. -/
def maskedScores (qt : FVec F S256x512 .bf16) (ka : FVec F S512x256 .bf16) : FVec F S512x512 .f32 :=
  select causal (scores qt ka) (broadcast S512x512 (Named.named κ "mask" 0xF149F2CA#32 : F .f32))

/-- The maximum after a chunk with scores `s`. -/
def newMax (m : FVec F S1x512 .f32) (s : FVec F S512x512 .f32) : FVec F S1x512 .f32 :=
  maximumf m (shapeCast S1x512 (multiReduction .maximumf [0] S512 s 0xFF800000#32 reduces_S512x512_S512 (.inl rfl) rfl) shapeCasts_S512_S1x512)

/-- The sums after a chunk: the old ones rescaled, plus values times weights. -/
def newAcc (m : FVec F S1x512 .f32) (acc : FVec F S80x512 .f32) (vo : FVec F S80x512 .bf16) (s : FVec F S512x512 .f32) : FVec F S80x512 .f32 :=
  addf (mulf (broadcastTo S80x512 (exp2 (subf m (newMax m s))) broadcasts_S1x512_S80x512) acc)
    (matmul dot_S80x512_S512x512_S80x512_1_0_0_1_n_n none vo
      (truncf .bf16 (exp2 (subf s (broadcastTo S512x512 (newMax m s) broadcasts_S1x512_S512x512))) bitsLt_bf16_f32)
      (constant S80x512 .f32 0x00000000#32))

/-- One chunk of keys with scores `s`. -/
def stepS (s : FVec F S512x512 .f32) (vo : FVec F S80x512 .bf16) (p : Carry F) : Carry F := (newMax p.1 s, newAcc p.1 p.2 vo s)

/-- One chunk of keys, every key visible. -/
def step (qt : FVec F S256x512 .bf16) (ka : FVec F S512x256 .bf16) (vo : FVec F S80x512 .bf16) (p : Carry F) : Carry F :=
  stepS (scores qt ka) vo p

/-- The sums divided by their total, which stands in row 64. -/
def quotient (acc : FVec F S80x512 .f32) : FVec F S1x64x512 .bf16 :=
  shapeCast S1x64x512
    (truncf .bf16 (divf (extractStridedSlice S64x512 ![0, 0] acc slices_S80x512_o0_0_S64x512)
      (broadcastTo S64x512 (extractStridedSlice S1x512 ![64, 0] acc slices_S80x512_o64_0_S1x512) broadcasts_S1x512_S64x512)) bitsLt_bf16_f32)
    shapeCasts_S64x512_S1x64x512

/-- The chunk on the diagonal, masked, and the division by the total. -/
def finish (qt : FVec F S256x512 .bf16) (ka : FVec F S512x256 .bf16) (vo : FVec F S80x512 .bf16) (p : Carry F) :
    FVec F S1x64x512 .bf16 :=
  quotient (newAcc p.1 p.2 vo (maskedScores qt ka))

/-- Key columns and bias columns of a pair, side by side. -/
def kaCat (k : Vec F S512x128 .bf16) (a : Vec F S1x1x512x128 .bf16) : FVec F S512x256 .bf16 :=
  concatenate S512x256 1 [⟨S512x128, shapeCast S512x128 k shapeCasts_S512x128_S512x128⟩, ⟨S512x128, shapeCast S512x128 a shapeCasts_S1x1x512x128_S512x128⟩]
    concatenates_S512x128_S512x128_S512x256_d1

/-- Key columns and bias columns of pair `p`, rows from `o`. -/
def kaOf (x2 : Vec F S8192x256 .bf16) (x3 : Vec F S1x2x8192x128 .bf16) (p o : ℕ) : FVec F S512x256 .bf16 :=
  kaCat (kRows x2 p o) (aRows x3 p o)

/-- Values over sixteen rows of ones. -/
def voCat (v : Vec F S1x64x512 .bf16) : FVec F S80x512 .bf16 :=
  concatenate S80x512 0 [⟨S64x512, shapeCast S64x512 v shapeCasts_S1x64x512_S64x512⟩, ⟨S16x512, broadcast S16x512 (Scalar.ofBits .bf16 0x3F80#16 : F .bf16)⟩]
    concatenates_S64x512_S16x512_S80x512_d0

/-- Values of head `h` with sixteen rows of ones, columns from `o`. -/
def voOf (x4 : Vec F S1x256x8192 .bf16) (h o : ℕ) : FVec F S80x512 .bf16 := voCat (vCols x4 h o)

/-- A head's query rows scaled. -/
def scaledQ (q : Vec F S1x64x512 .bf16) : FVec F S64x512 .bf16 :=
  truncf .bf16 (mulf (extf .f32 (shapeCast S64x512 q shapeCasts_S1x64x512_S64x512 : FVec F S64x512 .bf16) bitsLt_bf16_f32)
    (broadcast S64x512 (Named.named κ "qs" 0x3E38AA3B#32 : F .f32))) bitsLt_bf16_f32

/-- Two 64-row slots, the bias rows, zeros. -/
def qtCat (a b : FVec F S64x512 .bf16) (g : Vec F S1x1x16x512 .bf16) : FVec F S256x512 .bf16 :=
  concatenate S256x512 0 [⟨S128x512, concatenate S128x512 0 [⟨S64x512, a⟩, ⟨S64x512, b⟩] concatenates_S64x512_S64x512_S128x512_d0⟩,
    ⟨S16x512, shapeCast S16x512 g shapeCasts_S1x1x16x512_S16x512⟩, ⟨S112x512, broadcast S112x512 (Scalar.ofBits .bf16 0x0000#16 : F .bf16)⟩]
    concatenates_S128x512_S16x512_S112x512_S256x512_d0

/-- Sixty-four rows of zeros. -/
def zeroSlot : FVec F S64x512 .bf16 := broadcast S64x512 (Scalar.ofBits .bf16 0x0000#16 : F .bf16)

/-- Queries of an even head: its rows, 64 rows of zeros, the bias rows, zeros. -/
def qtEvenOf (q : Vec F S1x64x512 .bf16) (g : Vec F S1x1x16x512 .bf16) : FVec F S256x512 .bf16 := qtCat (scaledQ q) zeroSlot g

/-- Queries of an odd head: 64 rows of zeros, its rows, the bias rows, zeros. -/
def qtOddOf (q : Vec F S1x64x512 .bf16) (g : Vec F S1x1x16x512 .bf16) : FVec F S256x512 .bf16 := qtCat zeroSlot (scaledQ q) g

/-- Queries of the even head `h`. -/
def qtEven (x0 : Vec F S1x256x512 .bf16) (x1 : Vec F S1x4x16x512 .bf16) (h : ℕ) : FVec F S256x512 .bf16 :=
  qtEvenOf (qRows x0 h) (gRows x1 h)

/-- Queries of the odd head `h`. -/
def qtOdd (x0 : Vec F S1x256x512 .bf16) (x1 : Vec F S1x4x16x512 .bf16) (h : ℕ) : FVec F S256x512 .bf16 :=
  qtOddOf (qRows x0 h) (gRows x1 h)

/-- A head before the first chunk: the maximum at the mask, the sums zero. -/
def start : Carry F :=
  (broadcast S1x512 (Named.named κ "mask" 0xF149F2CA#32 : F .f32), broadcast S80x512 (Scalar.ofBits .f32 0x00000000#32 : F .f32))

/-- The carried pair of one head after `k` chunks. -/
def headSt (qt : FVec F S256x512 .bf16) (x2 : Vec F S8192x256 .bf16) (x3 : Vec F S1x2x8192x128 .bf16)
    (x4 : Vec F S1x256x8192 .bf16) (h : ℕ) : ℕ → Carry F
  | 0 => start
  | k + 1 => step qt (kaOf x2 x3 (h / 2) (512 * k)) (voOf x4 h (512 * k)) (headSt qt x2 x3 x4 h k)

/-- What one head stores at the point whose query block is number `n`. -/
def headOut (qt : FVec F S256x512 .bf16) (x2 : Vec F S8192x256 .bf16) (x3 : Vec F S1x2x8192x128 .bf16)
    (x4 : Vec F S1x256x8192 .bf16) (h n : ℕ) : FVec F S1x64x512 .bf16 :=
  finish qt (kaOf x2 x3 (h / 2) (512 * n)) (voOf x4 h (512 * n)) (headSt qt x2 x3 x4 h n)

/-! ## Loads and offsets -/

/-- A load of the keys is `kRows`. -/
theorem ld_kRows (x : Vec F S8192x256 .bf16) {off : Fin 2 → ℕ} (p o : ℕ) (h : off = ![o, 128 * p])
    (inb : ∀ a, off a + S512x128.size a ≤ S8192x256.size a) :
    View.ld x (Rect.unit (s := S8192x256) off S512x128.size inb) = kRows x p o := by
  subst h
  have h0 : o + 512 ≤ 8192 := inb 0
  have h1 : 128 * p + 128 ≤ 256 := inb 1
  funext j
  have j0 : (j 0).val < 512 := (j 0).isLt
  have j1 : (j 1).val < 128 := (j 1).isLt
  refine View.ld_unit_apply_of x _ _ inb j _ fun a => ?_
  match a with
  | ⟨0, _⟩ => exact Nat.mod_eq_of_lt (show o + (j 0).val < 8192 by omega)
  | ⟨1, _⟩ => exact Nat.mod_eq_of_lt (show 128 * p + (j 1).val < 256 by omega)

/-- A load of the bias columns is `aRows`. -/
theorem ld_aRows (x : Vec F S1x2x8192x128 .bf16) {off : Fin 4 → ℕ} (p o : ℕ) (h : off = ![0, p, o, 0])
    (inb : ∀ a, off a + S1x1x512x128.size a ≤ S1x2x8192x128.size a) :
    View.ld x (Rect.unit (s := S1x2x8192x128) off S1x1x512x128.size inb) = aRows x p o := by
  subst h
  have h0 : o + 512 ≤ 8192 := inb 2
  have h1 : p + 1 ≤ 2 := inb 1
  funext j
  have j0 : (j 0).val < 1 := (j 0).isLt
  have j1 : (j 1).val < 1 := (j 1).isLt
  have j2 : (j 2).val < 512 := (j 2).isLt
  refine View.ld_unit_apply_of x _ _ inb j _ fun a => ?_
  match a with
  | ⟨0, _⟩ => show 0 = 0 + (j 0).val; omega
  | ⟨1, _⟩ => show p % 2 = p + (j 1).val; rw [Nat.mod_eq_of_lt (by omega)]; omega
  | ⟨2, _⟩ => exact Nat.mod_eq_of_lt (show o + (j 2).val < 8192 by omega)
  | ⟨3, _⟩ => show (j 3).val = 0 + (j 3).val; omega

/-- A load of the values is `vCols`. -/
theorem ld_vCols (x : Vec F S1x256x8192 .bf16) {off : Fin 3 → ℕ} (h o : ℕ) (ho : off = ![0, 64 * h, o])
    (inb : ∀ a, off a + S1x64x512.size a ≤ S1x256x8192.size a) :
    View.ld x (Rect.unit (s := S1x256x8192) off S1x64x512.size inb) = vCols x h o := by
  subst ho
  have h0 : o + 512 ≤ 8192 := inb 2
  have h1 : 64 * h + 64 ≤ 256 := inb 1
  funext j
  have j0 : (j 0).val < 1 := (j 0).isLt
  have j1 : (j 1).val < 64 := (j 1).isLt
  have j2 : (j 2).val < 512 := (j 2).isLt
  refine View.ld_unit_apply_of x _ _ inb j _ fun a => ?_
  match a with
  | ⟨0, _⟩ => show 0 = 0 + (j 0).val; omega
  | ⟨1, _⟩ => exact Nat.mod_eq_of_lt (show 64 * h + (j 1).val < 256 by omega)
  | ⟨2, _⟩ => exact Nat.mod_eq_of_lt (show o + (j 2).val < 8192 by omega)

/-- A load of the queries is `qRows`. -/
theorem ld_qRows (x : Vec F S1x256x512 .bf16) {off : Fin 3 → ℕ} (h : ℕ) (ho : off = ![0, 64 * h, 0])
    (inb : ∀ a, off a + S1x64x512.size a ≤ S1x256x512.size a) :
    View.ld x (Rect.unit (s := S1x256x512) off S1x64x512.size inb) = qRows x h := by
  subst ho
  have h1 : 64 * h + 64 ≤ 256 := inb 1
  funext j
  have j0 : (j 0).val < 1 := (j 0).isLt
  have j1 : (j 1).val < 64 := (j 1).isLt
  refine View.ld_unit_apply_of x _ _ inb j _ fun a => ?_
  match a with
  | ⟨0, _⟩ => show 0 = 0 + (j 0).val; omega
  | ⟨1, _⟩ => exact Nat.mod_eq_of_lt (show 64 * h + (j 1).val < 256 by omega)
  | ⟨2, _⟩ => show (j 2).val = 0 + (j 2).val; omega

/-- A load of the bias rows is `gRows`. -/
theorem ld_gRows (x : Vec F S1x4x16x512 .bf16) {off : Fin 4 → ℕ} (h : ℕ) (ho : off = ![0, h, 0, 0])
    (inb : ∀ a, off a + S1x1x16x512.size a ≤ S1x4x16x512.size a) :
    View.ld x (Rect.unit (s := S1x4x16x512) off S1x1x16x512.size inb) = gRows x h := by
  subst ho
  have h1 : h + 1 ≤ 4 := inb 1
  funext j
  have j0 : (j 0).val < 1 := (j 0).isLt
  have j1 : (j 1).val < 1 := (j 1).isLt
  refine View.ld_unit_apply_of x _ _ inb j _ fun a => ?_
  match a with
  | ⟨0, _⟩ => show 0 = 0 + (j 0).val; omega
  | ⟨1, _⟩ => show h % 4 = h + (j 1).val; rw [Nat.mod_eq_of_lt (by omega)]; omega
  | ⟨2, _⟩ => show (j 2).val = 0 + (j 2).val; omega
  | ⟨3, _⟩ => show (j 3).val = 0 + (j 3).val; omega

/-- The first loop runs once per chunk before the diagonal one. -/
theorem trips_lit : ∀ n : Fin 16, Scf.trips 0#32 (Scalar.addi 0#32 (Scalar.muli (Scalar.divsi (Scalar.subi (BitVec.ofNat 32 n.val) 0#32) 1#32) 1#32)) 1#32 = n.val := by
  decide +kernel

/-- The second loop never runs. -/
theorem trips_lit2 : ∀ n : Fin 16, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
  decide +kernel

/-- The row offset of chunk `k`, as computed. -/
theorem off_lit : ∀ k : Fin 16, (Scalar.indexCast (Scalar.muli (Scf.iv 0#32 1#32 k.val) 512#32) : Index).toNat = 512 * k.val := by
  decide +kernel

/-- The row offset of the diagonal chunk, as computed. -/
theorem off_diag_lit : ∀ k : Fin 16, (Scalar.indexCast (Scalar.muli (BitVec.ofNat 32 k.val) 512#32) : Index).toNat = 512 * k.val := by
  decide +kernel

/-- The number of trips of the first loop. -/
theorem trips1 (i : grid0.Coords) : (k0_t1_loop i).trips = (i 2).val := trips_lit (i 2)

/-- The number of trips of the second loop. -/
theorem trips2 (i : grid0.Coords) : (k0_t2_loop i).trips = 0 := by
  have h := trips_lit2 (i 2)
  exact h

/-- A trip's number is below sixteen. -/
theorem trip_lt (i : grid0.Coords) (k : Fin (k0_t1_loop i).trips) : k.val < 16 := by
  have h2 : (i 2).val < 16 := (i 2).isLt
  exact lt_trans (lt_of_lt_of_eq k.isLt (trips1 i)) h2

theorem off1 (i : grid0.Coords) (k : Fin (k0_t1_loop i).trips) : k0_off1 i k = ![512 * k.val, 128 * 0] := by
  rw [← off_lit ⟨k.val, trip_lt i k⟩]; rfl
theorem off2 (i : grid0.Coords) (k : Fin (k0_t1_loop i).trips) : k0_off2 i k = ![0, 0, 512 * k.val, 0] := by
  rw [← off_lit ⟨k.val, trip_lt i k⟩]; rfl
theorem off3 (i : grid0.Coords) (k : Fin (k0_t1_loop i).trips) : k0_off3 i k = ![512 * k.val, 128 * 1] := by
  rw [← off_lit ⟨k.val, trip_lt i k⟩]; rfl
theorem off4 (i : grid0.Coords) (k : Fin (k0_t1_loop i).trips) : k0_off4 i k = ![0, 1, 512 * k.val, 0] := by
  rw [← off_lit ⟨k.val, trip_lt i k⟩]; rfl
theorem off5 (i : grid0.Coords) (k : Fin (k0_t1_loop i).trips) : k0_off5 i k = ![0, 64 * 0, 512 * k.val] := by
  rw [← off_lit ⟨k.val, trip_lt i k⟩]; rfl
theorem off6 (i : grid0.Coords) (k : Fin (k0_t1_loop i).trips) : k0_off6 i k = ![0, 64 * 1, 512 * k.val] := by
  rw [← off_lit ⟨k.val, trip_lt i k⟩]; rfl
theorem off7 (i : grid0.Coords) (k : Fin (k0_t1_loop i).trips) : k0_off7 i k = ![0, 64 * 2, 512 * k.val] := by
  rw [← off_lit ⟨k.val, trip_lt i k⟩]; rfl
theorem off8 (i : grid0.Coords) (k : Fin (k0_t1_loop i).trips) : k0_off8 i k = ![0, 64 * 3, 512 * k.val] := by
  rw [← off_lit ⟨k.val, trip_lt i k⟩]; rfl
theorem off17 (i : grid0.Coords) : k0_off17 i = ![512 * (i 2).val, 128 * 0] := by rw [← off_diag_lit (i 2)]; rfl
theorem off18 (i : grid0.Coords) : k0_off18 i = ![0, 0, 512 * (i 2).val, 0] := by rw [← off_diag_lit (i 2)]; rfl
theorem off19 (i : grid0.Coords) : k0_off19 i = ![512 * (i 2).val, 128 * 1] := by rw [← off_diag_lit (i 2)]; rfl
theorem off20 (i : grid0.Coords) : k0_off20 i = ![0, 1, 512 * (i 2).val, 0] := by rw [← off_diag_lit (i 2)]; rfl
theorem off21 (i : grid0.Coords) : k0_off21 i = ![0, 64 * 0, 512 * (i 2).val] := by rw [← off_diag_lit (i 2)]; rfl
theorem off22 (i : grid0.Coords) : k0_off22 i = ![0, 64 * 1, 512 * (i 2).val] := by rw [← off_diag_lit (i 2)]; rfl
theorem off23 (i : grid0.Coords) : k0_off23 i = ![0, 64 * 2, 512 * (i 2).val] := by rw [← off_diag_lit (i 2)]; rfl
theorem off24 (i : grid0.Coords) : k0_off24 i = ![0, 64 * 3, 512 * (i 2).val] := by rw [← off_diag_lit (i 2)]; rfl

end Cert.Proof.Block
-- ==== Proof.Elem.lean ====
/-  The words of one grid point read at an element, over the extended reals. -/
module

public import proofs.«01_k».proof.Proof.Block
public import Idealize.ShloMosaic.Lib.Pointwise

@[expose] public section

set_option maxRecDepth 16384

noncomputable section

open scoped BigOperators

namespace Cert.Proof.Elem

open Cert.KernelIdeal Cert.KernelIdeal.Gen Cert.Proof.Block
open Idealize.ShloMosaic

/-- A score: the product over the 256 columns. -/
theorem scores_apply (qt : FVec Ideal S256x512 .bf16) (ka : FVec Ideal S512x256 .bf16) (r j : Fin 512) :
    scores qt ka (ix2 r j) = ∑ c : Fin 256, ka (ix2 r c) * qt (ix2 c j) := by
  pointwise [scores]

/-- A masked score. -/
theorem maskedScores_apply (qt : FVec Ideal S256x512 .bf16) (ka : FVec Ideal S512x256 .bf16) (r j : Fin 512) :
    maskedScores qt ka (ix2 r j) = if r.val ≤ j.val then scores qt ka (ix2 r j) else ⊥ := by
  pointwise [maskedScores, causal]
  rw [show (Named.named κ "mask" 4048155338#32 : Ideal .f32) = ⊥ from rfl]
  have h : IntOp.cmpi CmpIPredicate.sle (BitVec.ofNat 32 r.val) (BitVec.ofNat 32 j.val) = BitVec.ofBool (decide (r.val ≤ j.val)) := by
    have hr : r.val < 512 := r.isLt
    have hj : j.val < 512 := j.isLt
    unfold IntOp.cmpi
    congr 1
    rw [BitVec.sle_eq_decide]
    congr 1
    rw [BitVec.toInt_eq_toNat_of_lt (by simp; omega), BitVec.toInt_eq_toNat_of_lt (by simp; omega)]
    simp
    omega
  rw [h]
  by_cases hc : r.val ≤ j.val
  · rw [if_pos hc, decide_eq_true hc]; rfl
  · rw [if_neg hc, decide_eq_false hc]; rfl

/-- The new maximum. -/
theorem newMax_apply (m : FVec Ideal S1x512 .f32) (s : FVec Ideal S512x512 .f32) (j : Fin 512) :
    newMax m s (ix2 0 j) = max (m (ix2 0 j)) ((Finset.univ : Finset (Fin 512)).fold max ⊥ fun r => s (ix2 r j)) := by
  pointwise [newMax]
  rw [show Ideal.ofBits FTy.f32 4286578688#32 = ⊥ by simp [Ideal.ofBits, Ideal.ieee]]

/-- The new sums. -/
theorem newAcc_apply (m : FVec Ideal S1x512 .f32) (acc : FVec Ideal S80x512 .f32) (vo : FVec Ideal S80x512 .bf16)
    (s : FVec Ideal S512x512 .f32) (d : Fin 80) (j : Fin 512) :
    newAcc m acc vo s (ix2 d j) = Ideal.exp2 (m (ix2 0 j) - newMax m s (ix2 0 j)) * acc (ix2 d j)
      + ∑ r : Fin 512, vo (ix2 d r) * Ideal.exp2 (s (ix2 r j) - newMax m s (ix2 0 j)) := by
  pointwise [newAcc]
  rfl

/-- The quotient. -/
theorem quotient_apply (acc : FVec Ideal S80x512 .f32) (d : Fin 64) (j : Fin 512) :
    quotient acc (ix3 0 d j) = Ideal.div (acc (ix2 ⟨d.val, by omega⟩ j)) (acc (ix2 64 j)) := by
  pointwise [quotient]

/-- The values over rows of ones: the values. -/
theorem voCat_low (v : Vec Ideal S1x64x512 .bf16) (d : Fin 64) (r : Fin 512) :
    voCat v (ix2 ⟨d.val, by omega⟩ r) = v (ix3 0 d r) := by
  pointwise [voCat]

/-- The values over rows of ones: the ones. -/
theorem voCat_ones (v : Vec Ideal S1x64x512 .bf16) (r : Fin 512) :
    voCat v (ix2 64 r) = 1 := by
  pointwise [voCat]

/-- The scaled queries. -/
theorem scaledQ_apply (q : Vec Ideal S1x64x512 .bf16) (d : Fin 64) (j : Fin 512) :
    scaledQ q (ix2 d j) = q (ix3 0 d j) * (((1 / 8) * (Real.log 2)⁻¹ : ℝ) : EReal) := by
  pointwise [scaledQ]
  rfl

/-- A head before the first chunk. -/
theorem start_fst (j : Fin 512) : (start (F := Ideal)).1 (ix2 0 j) = ⊥ := rfl

/-- A head before the first chunk. -/
theorem start_snd (d : Fin 80) (j : Fin 512) : (start (F := Ideal)).2 (ix2 d j) = 0 := by
  pointwise [start]

/-- A score of an even head: its 64 columns of the pair and the sixteen bias columns. -/
theorem scores_even (q : Vec Ideal S1x64x512 .bf16) (g : Vec Ideal S1x1x16x512 .bf16) (k : Vec Ideal S512x128 .bf16)
    (a : Vec Ideal S1x1x512x128 .bf16) (r j : Fin 512) :
    scores (qtEvenOf q g) (kaCat k a) (ix2 r j)
      = (∑ c : Fin 64, k (ix2 r ⟨c.val, by omega⟩) * scaledQ q (ix2 c j))
        + ∑ c : Fin 16, a (ix4 0 0 r ⟨c.val, by omega⟩) * g (ix4 0 0 c j) := by
  pointwise [scores, qtEvenOf, qtCat, kaCat, zeroSlot]
  rw [Fin.sum_univ_two_halves 128 128 rfl, Fin.sum_univ_two_halves 64 64 rfl, Fin.sum_univ_two_halves 16 112 rfl]
  have h1 : ∀ x : Fin 64, (x.val < 128) = True := fun x => eq_true (by omega)
  have h2 : ∀ x : Fin 64, (64 + x.val < 128) = True := fun x => eq_true (by omega)
  simp [h1, h2]

/-- A score of an odd head: its 64 columns of the pair and the sixteen bias columns. -/
theorem scores_odd (q : Vec Ideal S1x64x512 .bf16) (g : Vec Ideal S1x1x16x512 .bf16) (k : Vec Ideal S512x128 .bf16)
    (a : Vec Ideal S1x1x512x128 .bf16) (r j : Fin 512) :
    scores (qtOddOf q g) (kaCat k a) (ix2 r j)
      = (∑ c : Fin 64, k (ix2 r ⟨64 + c.val, by omega⟩) * scaledQ q (ix2 c j))
        + ∑ c : Fin 16, a (ix4 0 0 r ⟨c.val, by omega⟩) * g (ix4 0 0 c j) := by
  pointwise [scores, qtOddOf, qtCat, kaCat, zeroSlot]
  rw [Fin.sum_univ_two_halves 128 128 rfl, Fin.sum_univ_two_halves 64 64 rfl, Fin.sum_univ_two_halves 16 112 rfl]
  have h1 : ∀ x : Fin 64, (x.val < 128) = True := fun x => eq_true (by omega)
  have h2 : ∀ x : Fin 64, (64 + x.val < 128) = True := fun x => eq_true (by omega)
  simp [h1, h2]

end Cert.Proof.Elem
-- ==== Proof.Softmax.lean ====
/-  The softmax of one query over its visible keys, as extended reals: the running form (a maximum, rescaled sums) and the
    two-pass form (maximum, exponentials, total, quotient) both come to a quotient of two real sums. -/
module

public import Idealize.ShloMosaic.PureOps.Ideal.Laws
public import Idealize.ShloMosaic.Lib.IdealHost

@[expose] public section

noncomputable section

namespace Cert.Proof.Softmax

open Idealize.ShloMosaic
open scoped BigOperators

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The base-two exponential at a real. -/
theorem exp2_coe (r : ℝ) : Ideal.exp2 (r : EReal) = (((2 : ℝ) ^ r : ℝ) : EReal) := rfl

/-- The base-two exponential at minus infinity. -/
theorem exp2_bot : Ideal.exp2 ⊥ = 0 := rfl

/-- The exponential at a real. -/
theorem exp_coe (r : ℝ) : Ideal.exp (r : EReal) = ((Real.exp r : ℝ) : EReal) := rfl

/-- The exponential at minus infinity. -/
theorem exp_bot : Ideal.exp ⊥ = 0 := rfl

/-- A quotient of reals with a divisor other than zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A fold of maxima over reals and minus infinities is a real or minus infinity. -/
theorem fold_max_cases {ι : Type} (S : Finset ι) (x : ι → EReal) (hx : ∀ r, x r = ⊥ ∨ ∃ y : ℝ, x r = y) :
    S.fold max ⊥ x = ⊥ ∨ ∃ M : ℝ, S.fold max ⊥ x = M := by
  classical
  induction S using Finset.induction_on with
  | empty => left; simp
  | insert a s ha ih =>
    rw [Finset.fold_insert ha]
    rcases hx a with h | ⟨y, h⟩ <;> rcases ih with h' | ⟨M, h'⟩ <;> rw [h, h']
    · left; simp
    · right; exact ⟨M, by simp⟩
    · right; exact ⟨y, by simp⟩
    · right; exact ⟨max y M, ((EReal.coe_strictMono.monotone.map_max (a := y) (b := M)).symm)⟩

/-- Each member is at most the fold of maxima. -/
theorem le_fold_max {ι : Type} (S : Finset ι) (x : ι → EReal) (r : ι) (hr : r ∈ S) : x r ≤ S.fold max ⊥ x :=
  Finset.le_fold_max (x r) |>.2 (Or.inr ⟨r, hr, le_rfl⟩)

/-- The running state of one query for one row of values: nothing seen yet, or a real maximum `M` and the sum `T` of
    `2^score · value` over the keys seen, scaled by `2^(-M)`. -/
def Inv (m a : EReal) (T : ℝ) : Prop :=
  (m = ⊥ ∧ a = 0 ∧ T = 0) ∨ ∃ M : ℝ, m = M ∧ a = (((2 : ℝ) ^ (-M) * T : ℝ) : EReal)

/-- Before the first key. -/
theorem Inv.init : Inv ⊥ 0 0 := Or.inl ⟨rfl, rfl, rfl⟩

/-- The sum over a chunk of keys, scaled by a real maximum: masked keys add nothing. -/
theorem chunk_sum {ι : Type} [Fintype ι] (vis : ι → Prop) [DecidablePred vis] (s v : ι → ℝ) (x w : ι → EReal)
    (hx : ∀ r, x r = if vis r then (s r : EReal) else ⊥) (hw : ∀ r, w r = v r) (M : ℝ) :
    ∑ r, w r * Ideal.exp2 (x r - M) = (((2 : ℝ) ^ (-M) * ∑ r, (if vis r then (2 : ℝ) ^ (s r) * v r else 0) : ℝ) : EReal) := by
  rw [Finset.mul_sum, coe_sum]
  refine Finset.sum_congr rfl fun r _ => ?_
  rw [hx, hw]
  by_cases h : vis r
  · rw [if_pos h, if_pos h, ← EReal.coe_sub, exp2_coe, ← EReal.coe_mul]
    congr 1
    rw [sub_eq_add_neg, Real.rpow_add (by norm_num)]; ring
  · rw [if_neg h, if_neg h]
    simp [exp2_bot, EReal.bot_sub]

/-- One chunk of keys carries the running state on. -/
theorem Inv.step {ι : Type} [Fintype ι] {m a : EReal} {T : ℝ} (h : Inv m a T) (vis : ι → Prop) [DecidablePred vis]
    (s v : ι → ℝ) (x w : ι → EReal)
    (hx : ∀ r, x r = if vis r then (s r : EReal) else ⊥) (hw : ∀ r, w r = v r) :
    Inv (max m (Finset.univ.fold max ⊥ x))
      (Ideal.exp2 (m - max m (Finset.univ.fold max ⊥ x)) * a + ∑ r, w r * Ideal.exp2 (x r - max m (Finset.univ.fold max ⊥ x)))
      (T + ∑ r, (if vis r then (2 : ℝ) ^ (s r) * v r else 0)) := by
  have hcase := fold_max_cases Finset.univ x (fun r => by
    rw [hx]; by_cases hv : vis r
    · right; exact ⟨s r, if_pos hv⟩
    · left; exact if_neg hv)
  have hle := fun r => le_fold_max Finset.univ x r (Finset.mem_univ r)
  generalize Finset.univ.fold max ⊥ x = G at hcase hle
  have hm : m = ⊥ ∨ ∃ M : ℝ, m = M := by
    rcases h with ⟨h, _⟩ | ⟨M, h, _⟩
    · exact Or.inl h
    · exact Or.inr ⟨M, h⟩
  have hmax : max m G = ⊥ ∨ ∃ M : ℝ, max m G = M := by
    rcases hm with h | ⟨y, h⟩ <;> rcases hcase with h' | ⟨M, h'⟩ <;> rw [h, h']
    · left; simp
    · right; exact ⟨M, by simp⟩
    · right; exact ⟨y, by simp⟩
    · right; exact ⟨max y M, ((EReal.coe_strictMono.monotone.map_max (a := y) (b := M)).symm)⟩
  rcases hmax with hb | ⟨M', hM'⟩
  · have hm0 : m = ⊥ := le_bot_iff.1 (hb ▸ le_max_left m G)
    have hG : G = ⊥ := le_bot_iff.1 (hb ▸ le_max_right m G)
    have hvis : ∀ r, ¬ vis r := fun r hv => by
      have := hle r
      rw [hG, hx, if_pos hv] at this
      exact absurd (le_bot_iff.1 this) (EReal.coe_ne_bot _)
    left
    have ha : a = 0 ∧ T = 0 := by
      rcases h with ⟨_, h⟩ | ⟨M, h, _⟩
      · exact h
      · rw [hm0] at h; exact absurd h.symm (EReal.coe_ne_bot _)
    refine ⟨hb, ?_, ?_⟩
    · rw [ha.1, mul_zero, zero_add]
      refine Finset.sum_eq_zero fun r _ => ?_
      rw [hx, if_neg (hvis r), EReal.bot_sub, exp2_bot, mul_zero]
    · rw [ha.2, zero_add]
      exact Finset.sum_eq_zero fun r _ => if_neg (hvis r)
  · right
    refine ⟨M', hM', ?_⟩
    rw [hM', chunk_sum vis s v x w hx hw M', mul_add, EReal.coe_add]
    congr 1
    rcases h with ⟨h1, h2, h3⟩ | ⟨M, h1, h2⟩
    · rw [h2, h3, mul_zero, mul_zero, EReal.coe_zero]
    · rw [h1, h2, ← EReal.coe_sub, exp2_coe, ← EReal.coe_mul]
      congr 1
      rw [← mul_assoc, ← Real.rpow_add (by norm_num)]
      congr 2; ring

/-- The quotient of two rows of one running state, the divisor's sum being positive. -/
theorem Inv.div {m a b : EReal} {T L : ℝ} (ha : Inv m a T) (hb : Inv m b L) (hL : 0 < L) :
    Ideal.div a b = ((T / L : ℝ) : EReal) := by
  rcases hb with ⟨_, _, h⟩ | ⟨M, hM, hb⟩
  · exact absurd h hL.ne'
  · rcases ha with ⟨h, _⟩ | ⟨M', hM', ha⟩
    · rw [hM] at h; exact absurd h (EReal.coe_ne_bot _)
    · have hMM : M' = M := EReal.coe_injective (hM'.symm.trans hM)
      subst hMM
      have hp : (0 : ℝ) < (2 : ℝ) ^ (-M') := Real.rpow_pos_of_pos (by norm_num) _
      rw [ha, hb, div_coe _ _ (mul_pos hp hL).ne', mul_div_mul_left _ _ hp.ne']

/-- The two-pass softmax of one query applied to values: the maximum cancels. -/
theorem two_pass {ι : Type} [Fintype ι] (vis : ι → Prop) [DecidablePred vis] (s v : ι → ℝ) (x w : ι → EReal)
    (hne : ∃ r, vis r) (hx : ∀ r, x r = if vis r then (s r : EReal) else ⊥) (hw : ∀ r, w r = v r) :
    ∑ r, w r * (if vis r then
        Ideal.div (Ideal.exp (x r - max ⊥ (Finset.univ.fold max ⊥ x)))
          (0 + ∑ k, Ideal.exp (x k - max ⊥ (Finset.univ.fold max ⊥ x))) else 0)
      = (((∑ r, if vis r then Real.exp (s r) * v r else 0) / (∑ r, if vis r then Real.exp (s r) else 0) : ℝ) : EReal) := by
  have hcase := fold_max_cases Finset.univ x (fun r => by
    rw [hx]; by_cases hv : vis r
    · right; exact ⟨s r, if_pos hv⟩
    · left; exact if_neg hv)
  have hle := fun r => le_fold_max Finset.univ x r (Finset.mem_univ r)
  generalize Finset.univ.fold max ⊥ x = G at hcase hle
  obtain ⟨r0, hr0⟩ := hne
  have hG : ∃ M : ℝ, G = M := by
    rcases hcase with h | h
    · have := hle r0
      rw [h, hx, if_pos hr0] at this
      exact absurd (le_bot_iff.1 this) (EReal.coe_ne_bot _)
    · exact h
  obtain ⟨M, rfl⟩ := hG
  have hmax : max ⊥ (M : EReal) = M := by simp
  rw [hmax]
  have he : ∀ r, Ideal.exp (x r - M) = ((Real.exp (-M) * (if vis r then Real.exp (s r) else 0) : ℝ) : EReal) := fun r => by
    rw [hx]
    by_cases h : vis r
    · rw [if_pos h, if_pos h, ← EReal.coe_sub, exp_coe, ← Real.exp_add]
      congr 2; ring
    · rw [if_neg h, if_neg h, EReal.bot_sub, exp_bot, mul_zero, EReal.coe_zero]
  have hpos : 0 < ∑ r, (if vis r then Real.exp (s r) else 0) :=
    Finset.sum_pos' (fun r _ => by split_ifs <;> positivity) ⟨r0, Finset.mem_univ _, by rw [if_pos hr0]; positivity⟩
  simp only [he]
  rw [zero_add, ← coe_sum, ← Finset.mul_sum, Finset.sum_div, coe_sum]
  refine Finset.sum_congr rfl fun r _ => ?_
  have hM : (0 : ℝ) < Real.exp (-M) := Real.exp_pos _
  rw [hw, div_coe _ _ (mul_pos hM hpos).ne', mul_div_mul_left _ _ hM.ne']
  by_cases h : vis r
  · rw [if_pos h, if_pos h, if_pos h, ← EReal.coe_mul]
    congr 1; ring
  · rw [if_neg h, if_neg h, mul_zero, zero_div, EReal.coe_zero]

/-- A power of two of a quotient by the logarithm of two is the exponential. -/
theorem two_rpow_div_log (t : ℝ) : (2 : ℝ) ^ (t * (Real.log 2)⁻¹) = Real.exp t := by
  have h : Real.log 2 ≠ 0 := (Real.log_pos (by norm_num)).ne'
  rw [Real.rpow_def_of_pos (by norm_num)]
  congr 1; field_simp

/-- A sum over the naturals below `a + b` splits into the first `a` and a block of `b`. -/
theorem sum_range_block (f : ℕ → ℝ) (a b : ℕ) :
    ∑ j ∈ Finset.range (a + b), f j = ∑ j ∈ Finset.range a, f j + ∑ r : Fin b, f (a + r.val) := by
  rw [Finset.sum_range_add, Fin.sum_univ_eq_sum_range (fun r => f (a + r)) b]

/-- A sum over `Fin n` of a function that vanishes from `a` on is the sum over the naturals below `a`. -/
theorem sum_range_of_vanish (f : ℕ → ℝ) (a n : ℕ) (h : a ≤ n) (hf : ∀ j, a ≤ j → f j = 0) :
    ∑ j ∈ Finset.range a, f j = ∑ r : Fin n, f r.val := by
  rw [Fin.sum_univ_eq_sum_range f n]
  refine Finset.sum_subset (Finset.range_subset_range.2 h) fun j _ hj => hf j ?_
  simpa using hj

end Cert.Proof.Softmax
-- ==== Proof.Head.lean ====
/-  One head at one query: the running softmax over the chunks of keys ends at the quotient of the two sums. -/
module

public import proofs.«01_k».proof.Proof.Elem
public import proofs.«01_k».proof.Proof.Softmax

@[expose] public section

set_option maxRecDepth 16384

noncomputable section

open scoped BigOperators

namespace Cert.Proof.Head

open Cert.KernelIdeal Cert.KernelIdeal.Gen Cert.Proof.Block Cert.Proof.Elem Cert.Proof.Softmax
open Idealize.ShloMosaic

variable (qt : FVec Ideal S256x512 .bf16) (x2 : Vec Ideal S8192x256 .bf16) (x3 : Vec Ideal S1x2x8192x128 .bf16)
  (x4 : Vec Ideal S1x256x8192 .bf16) (h n : ℕ) (j : Fin 512) (s : ℕ → ℝ)

/-- The scores of query `j` against every chunk up to number `n` are the reals `s`. -/
def ScoresAre : Prop :=
  ∀ k ≤ n, ∀ r : Fin 512, scores qt (kaOf x2 x3 (h / 2) (512 * k)) (ix2 r j) = ((s (512 * k + r.val) : ℝ) : EReal)

/-- Row `d` of the values over ones, in every chunk up to number `n`, is the reals `w`. -/
def ValuesAre (d : Fin 80) (w : ℕ → ℝ) : Prop :=
  ∀ k ≤ n, ∀ r : Fin 512, voOf x4 h (512 * k) (ix2 d r) = ((w (512 * k + r.val) : ℝ) : EReal)

variable {qt x2 x3 x4 h n j s}

/-- After `k` whole chunks the carried pair holds the sum over their keys. -/
theorem inv_chunks (hs : ScoresAre qt x2 x3 h n j s) (d : Fin 80) {w : ℕ → ℝ} (hw : ValuesAre x4 h n d w) (k : ℕ) (hk : k ≤ n) :
    Inv ((headSt qt x2 x3 x4 h k).1 (ix2 0 j)) ((headSt qt x2 x3 x4 h k).2 (ix2 d j))
      (∑ i ∈ Finset.range (512 * k), (2 : ℝ) ^ (s i) * w i) := by
  induction k with
  | zero =>
    have h0 : (headSt qt x2 x3 x4 h 0) = start := rfl
    rw [h0, start_fst, start_snd]
    simpa using Inv.init
  | succ k ih =>
    have h1 := (ih (by omega)).step (fun _ : Fin 512 => True) (fun r => s (512 * k + r.val)) (fun r => w (512 * k + r.val))
      (fun r => scores qt (kaOf x2 x3 (h / 2) (512 * k)) (ix2 r j)) (fun r => voOf x4 h (512 * k) (ix2 d r))
      (fun r => by rw [if_pos trivial]; exact hs k (by omega) r) (fun r => hw k (by omega) r)
    have e : headSt qt x2 x3 x4 h (k + 1)
        = (newMax (headSt qt x2 x3 x4 h k).1 (scores qt (kaOf x2 x3 (h / 2) (512 * k))),
           newAcc (headSt qt x2 x3 x4 h k).1 (headSt qt x2 x3 x4 h k).2 (voOf x4 h (512 * k)) (scores qt (kaOf x2 x3 (h / 2) (512 * k)))) := rfl
    rw [e]
    dsimp only
    rw [newAcc_apply, newMax_apply, show 512 * (k + 1) = 512 * k + 512 by ring, sum_range_block]
    simpa using h1

/-- After the chunk on the diagonal the sums run over the keys up to the query. -/
theorem inv_diag (hs : ScoresAre qt x2 x3 h n j s) (d : Fin 80) {w : ℕ → ℝ} (hw : ValuesAre x4 h n d w) (hn : n < 16) :
    Inv (newMax (headSt qt x2 x3 x4 h n).1 (maskedScores qt (kaOf x2 x3 (h / 2) (512 * n))) (ix2 0 j))
      (newAcc (headSt qt x2 x3 x4 h n).1 (headSt qt x2 x3 x4 h n).2 (voOf x4 h (512 * n))
        (maskedScores qt (kaOf x2 x3 (h / 2) (512 * n))) (ix2 d j))
      (∑ i : Fin 8192, if i.val ≤ 512 * n + j.val then (2 : ℝ) ^ (s i.val) * w i.val else 0) := by
  have h1 := (inv_chunks hs d hw n le_rfl).step (fun r : Fin 512 => r.val ≤ j.val) (fun r => s (512 * n + r.val)) (fun r => w (512 * n + r.val))
    (fun r => maskedScores qt (kaOf x2 x3 (h / 2) (512 * n)) (ix2 r j)) (fun r => voOf x4 h (512 * n) (ix2 d r))
    (fun r => by rw [maskedScores_apply, hs n le_rfl r]) (fun r => hw n le_rfl r)
  have e : (∑ i ∈ Finset.range (512 * n), (2 : ℝ) ^ (s i) * w i)
        + ∑ r : Fin 512, (if r.val ≤ j.val then (2 : ℝ) ^ (s (512 * n + r.val)) * w (512 * n + r.val) else 0)
      = ∑ i : Fin 8192, if i.val ≤ 512 * n + j.val then (2 : ℝ) ^ (s i.val) * w i.val else 0 := by
    have hj : j.val < 512 := j.isLt
    rw [← sum_range_of_vanish (fun i => if i ≤ 512 * n + j.val then (2 : ℝ) ^ (s i) * w i else 0) (512 * n + 512) 8192 (by omega)
      (fun i hi => if_neg (by omega)), sum_range_block]
    congr 1
    · refine Finset.sum_congr rfl fun i hi => ?_
      rw [Finset.mem_range] at hi
      rw [if_pos (by omega)]
    · refine Finset.sum_congr rfl fun r _ => ?_
      by_cases hc : r.val ≤ j.val
      · rw [if_pos hc, if_pos (by omega)]
      · rw [if_neg hc, if_neg (by omega)]
  rw [newAcc_apply, newMax_apply, ← e]
  exact h1

/-- What a head stores for feature `d` of query `j`: the weighted sum over the keys up to the query, divided by the weights. -/
theorem headOut_apply (hs : ScoresAre qt x2 x3 h n j s) (d : Fin 64) {v : ℕ → ℝ} (hn : n < 16)
    (hv : ∀ k ≤ n, ∀ r : Fin 512, vCols x4 h (512 * k) (ix3 0 d r) = ((v (512 * k + r.val) : ℝ) : EReal)) :
    headOut qt x2 x3 x4 h n (ix3 0 d j)
      = (((∑ i : Fin 8192, if i.val ≤ 512 * n + j.val then (2 : ℝ) ^ (s i.val) * v i.val else 0)
          / (∑ i : Fin 8192, if i.val ≤ 512 * n + j.val then (2 : ℝ) ^ (s i.val) else 0) : ℝ) : EReal) := by
  have ha := inv_diag hs ⟨d.val, by omega⟩ (w := v) (fun k hk r => by unfold voOf; rw [voCat_low]; exact hv k hk r) hn
  have hb := inv_diag hs 64 (w := fun _ => 1) (x4 := x4) (fun k hk r => by unfold voOf; rw [voCat_ones]; simp) hn
  have hL : 0 < ∑ i : Fin 8192, (if i.val ≤ 512 * n + j.val then (2 : ℝ) ^ (s i.val) * 1 else 0) :=
    Finset.sum_pos' (fun r _ => by split_ifs <;> positivity) ⟨⟨0, by omega⟩, Finset.mem_univ _, by rw [if_pos (by simp)]; positivity⟩
  have e := ha.div hb hL
  unfold headOut finish
  rw [quotient_apply, e]
  simp

end Cert.Proof.Head
-- ==== Proof.PointValue.lean ====
/-  What a grid point computes from its blocks, for finite arguments: the attention. -/
module

public import proofs.«01_k».proof.Proof.PrepValue
public import proofs.«01_k».proof.Proof.Head

@[expose] public section

set_option maxRecDepth 16384

noncomputable section

open scoped BigOperators

namespace Cert.Proof.PointValue

open Cert.KernelIdeal Cert.KernelIdeal.Gen Cert.Proof.Block Cert.Proof.Elem Cert.Proof.Head Cert.Proof.Spec Cert.Proof.PrepValue Cert.Proof.Softmax
open Idealize.ShloMosaic

variable (z : FVec Ideal S2x8192x6432 .f32) (cum : FVec Ideal S2x8x8192 .f32)

/-- The blocks of the point of sequence `b`, head group `g` and query block `n`, as real numbers. -/
structure BlocksAre (b : Fin 2) (g n : ℕ) (x0 : Vec Ideal S1x256x512 .bf16) (x1 : Vec Ideal S1x4x16x512 .bf16) (x2 : Vec Ideal S8192x256 .bf16)
    (x3 : Vec Ideal S1x2x8192x128 .bf16) (x4 : Vec Ideal S1x256x8192 .bf16) : Prop where
  q : ∀ (r : Fin 256) (j : Fin 512), x0 (ix3 0 r j) = ((zr z b (512 * n + j.val) (1816 + 256 * g + r.val) : ℝ) : EReal)
  bq : ∀ (h : Fin 4) (r : Fin 16) (j : Fin 512), x1 (ix4 0 h r j) = ((qRow (h.val % 2 = 0) (cl cum b (4 * g + h.val) (512 * n + j.val)) r.val : ℝ) : EReal)
  k : ∀ (t : Fin 8192) (r : Fin 256), x2 (ix2 t r) = ((zr z b t.val (2328 + 256 * g + r.val) : ℝ) : EReal)
  bk : ∀ (p : Fin 2) (t : Fin 8192) (c : Fin 16), x3 (ix4 0 p t ⟨c.val, by omega⟩)
    = ((kCol (cl cum b (4 * g + 2 * p.val) t.val) (cl cum b (4 * g + 2 * p.val + 1) t.val) c.val : ℝ) : EReal)
  v : ∀ (r : Fin 256) (t : Fin 8192), x4 (ix3 0 r t) = ((zr z b t.val (2840 + 256 * g + r.val) : ℝ) : EReal)

theorem kRows_apply (x : Vec Ideal S8192x256 .bf16) (p o : ℕ) (r : Fin 512) (c : Fin 128) (h1 : o + r.val < 8192) (h2 : 128 * p + c.val < 256) :
    kRows x p o (ix2 r c) = x (ix2 ⟨o + r.val, h1⟩ ⟨128 * p + c.val, h2⟩) :=
  congrArg x (funext fun a => match a with | ⟨0, _⟩ => Fin.ext (Nat.mod_eq_of_lt h1) | ⟨1, _⟩ => Fin.ext (Nat.mod_eq_of_lt h2))

theorem aRows_apply (x : Vec Ideal S1x2x8192x128 .bf16) (p o : ℕ) (r : Fin 512) (c : Fin 128) (h1 : o + r.val < 8192) (h2 : p < 2) :
    aRows x p o (ix4 0 0 r c) = x (ix4 0 ⟨p, h2⟩ ⟨o + r.val, h1⟩ c) :=
  congrArg x (funext fun a => match a with | ⟨0, _⟩ => rfl | ⟨1, _⟩ => Fin.ext (Nat.mod_eq_of_lt h2) | ⟨2, _⟩ => Fin.ext (Nat.mod_eq_of_lt h1) | ⟨3, _⟩ => rfl)

theorem vCols_apply (x : Vec Ideal S1x256x8192 .bf16) (h o : ℕ) (d : Fin 64) (r : Fin 512) (h1 : o + r.val < 8192) (h2 : 64 * h + d.val < 256) :
    vCols x h o (ix3 0 d r) = x (ix3 0 ⟨64 * h + d.val, h2⟩ ⟨o + r.val, h1⟩) :=
  congrArg x (funext fun a => match a with | ⟨0, _⟩ => rfl | ⟨1, _⟩ => Fin.ext (Nat.mod_eq_of_lt h2) | ⟨2, _⟩ => Fin.ext (Nat.mod_eq_of_lt h1))

theorem qRows_apply (x : Vec Ideal S1x256x512 .bf16) (h : ℕ) (d : Fin 64) (j : Fin 512) (h2 : 64 * h + d.val < 256) :
    qRows x h (ix3 0 d j) = x (ix3 0 ⟨64 * h + d.val, h2⟩ j) :=
  congrArg x (funext fun a => match a with | ⟨0, _⟩ => rfl | ⟨1, _⟩ => Fin.ext (Nat.mod_eq_of_lt h2) | ⟨2, _⟩ => rfl)

theorem gRows_apply (x : Vec Ideal S1x4x16x512 .bf16) (h : ℕ) (r : Fin 16) (j : Fin 512) (h2 : h < 4) :
    gRows x h (ix4 0 0 r j) = x (ix4 0 ⟨h, h2⟩ r j) :=
  congrArg x (funext fun a => match a with | ⟨0, _⟩ => rfl | ⟨1, _⟩ => Fin.ext (Nat.mod_eq_of_lt h2) | ⟨2, _⟩ => rfl | ⟨3, _⟩ => rfl)

/-- The score in units of `log 2` of a query in the head whose local number is `h`. -/
def s2 (b : Fin 2) (g n h : ℕ) (j : Fin 512) (k : ℕ) : ℝ := score z cum b (4 * g + h) (512 * n + j.val) k * (Real.log 2)⁻¹

/-- The sum of the products of a query's and a key's features, and the decay difference, make the score. -/
theorem score_parts (b : Fin 2) (h q k : ℕ) (col : ℕ → ℕ) (colk : ℕ → ℕ) (hq : ∀ d, col d = 1816 + 64 * h + d) (hk : ∀ d, colk d = 2328 + 64 * h + d) :
    (∑ d : Fin 64, zr z b k (colk d.val) * (zr z b q (col d.val) * ((1 / 8) * (Real.log 2)⁻¹))) + (cl cum b h q - cl cum b h k)
      = score z cum b h q k * (Real.log 2)⁻¹ := by
  simp only [hq, hk]
  unfold score cl
  rw [add_sub_assoc, add_mul, sub_mul, Finset.sum_mul, Finset.sum_mul]
  congr 1
  exact Finset.sum_congr rfl fun d _ => by ring

variable {z cum} {b : Fin 2} {g n : ℕ} {x0 : Vec Ideal S1x256x512 .bf16} {x1 : Vec Ideal S1x4x16x512 .bf16} {x2 : Vec Ideal S8192x256 .bf16}
    {x3 : Vec Ideal S1x2x8192x128 .bf16} {x4 : Vec Ideal S1x256x8192 .bf16}

/-- The scores of an even head. -/
theorem scoresAre_even (H : BlocksAre z cum b g n x0 x1 x2 x3 x4) (hn : n < 16) (h : ℕ) (hh : h < 4) (he : h % 2 = 0) (j : Fin 512) :
    ScoresAre (qtEven x0 x1 h) x2 x3 h n j (s2 z cum b g n h j) := by
  intro k hk r
  have hr : 512 * k + r.val < 8192 := by omega
  unfold qtEven kaOf
  rw [scores_even]
  have e1 : ∀ c : Fin 64, (kRows x2 (h / 2) (512 * k) (ix2 r ⟨c.val, by omega⟩) : EReal) * scaledQ (qRows x0 h) (ix2 c j)
      = ((zr z b (512 * k + r.val) (2328 + 256 * g + (128 * (h / 2) + c.val)) * (zr z b (512 * n + j.val) (1816 + 256 * g + (64 * h + c.val)) * ((1 / 8) * (Real.log 2)⁻¹)) : ℝ) : EReal) := fun c => by
    rw [kRows_apply x2 (h / 2) (512 * k) r ⟨c.val, by omega⟩ hr (by simp only; omega), scaledQ_apply, qRows_apply x0 h c j (by omega), H.k, H.q, ← EReal.coe_mul, ← EReal.coe_mul]
  have e2 : ∀ c : Fin 16, (aRows x3 (h / 2) (512 * k) (ix4 0 0 r ⟨c.val, by omega⟩) : EReal) * gRows x1 h (ix4 0 0 c j)
      = ((kCol (cl cum b (4 * g + 2 * (h / 2)) (512 * k + r.val)) (cl cum b (4 * g + 2 * (h / 2) + 1) (512 * k + r.val)) c.val
          * qRow (h % 2 = 0) (cl cum b (4 * g + h) (512 * n + j.val)) c.val : ℝ) : EReal) := fun c => by
    rw [aRows_apply x3 (h / 2) (512 * k) r ⟨c.val, by omega⟩ hr (by omega), gRows_apply x1 h c j hh, H.bk, H.bq, ← EReal.coe_mul]
  rw [Finset.sum_congr rfl fun c _ => e1 c, Finset.sum_congr rfl fun c _ => e2 c, ← coe_sum, ← coe_sum, ← EReal.coe_add, bias_sum, if_pos he]
  unfold s2
  rw [show 4 * g + 2 * (h / 2) = 4 * g + h from by omega]
  rw [score_parts z cum b (4 * g + h) (512 * n + j.val) (512 * k + r.val) (fun c => 1816 + 256 * g + (64 * h + c)) (fun c => 2328 + 256 * g + (128 * (h / 2) + c))
    (fun d => by omega) (fun d => by omega)]

/-- The scores of an odd head. -/
theorem scoresAre_odd (H : BlocksAre z cum b g n x0 x1 x2 x3 x4) (hn : n < 16) (h : ℕ) (hh : h < 4) (he : h % 2 = 1) (j : Fin 512) :
    ScoresAre (qtOdd x0 x1 h) x2 x3 h n j (s2 z cum b g n h j) := by
  intro k hk r
  have hr : 512 * k + r.val < 8192 := by omega
  unfold qtOdd kaOf
  rw [scores_odd]
  have e1 : ∀ c : Fin 64, (kRows x2 (h / 2) (512 * k) (ix2 r ⟨64 + c.val, by omega⟩) : EReal) * scaledQ (qRows x0 h) (ix2 c j)
      = ((zr z b (512 * k + r.val) (2328 + 256 * g + (128 * (h / 2) + (64 + c.val))) * (zr z b (512 * n + j.val) (1816 + 256 * g + (64 * h + c.val)) * ((1 / 8) * (Real.log 2)⁻¹)) : ℝ) : EReal) := fun c => by
    rw [kRows_apply x2 (h / 2) (512 * k) r ⟨64 + c.val, by omega⟩ hr (by simp only; omega), scaledQ_apply, qRows_apply x0 h c j (by omega), H.k, H.q, ← EReal.coe_mul, ← EReal.coe_mul]
  have e2 : ∀ c : Fin 16, (aRows x3 (h / 2) (512 * k) (ix4 0 0 r ⟨c.val, by omega⟩) : EReal) * gRows x1 h (ix4 0 0 c j)
      = ((kCol (cl cum b (4 * g + 2 * (h / 2)) (512 * k + r.val)) (cl cum b (4 * g + 2 * (h / 2) + 1) (512 * k + r.val)) c.val
          * qRow (h % 2 = 0) (cl cum b (4 * g + h) (512 * n + j.val)) c.val : ℝ) : EReal) := fun c => by
    rw [aRows_apply x3 (h / 2) (512 * k) r ⟨c.val, by omega⟩ hr (by omega), gRows_apply x1 h c j hh, H.bk, H.bq, ← EReal.coe_mul]
  rw [Finset.sum_congr rfl fun c _ => e1 c, Finset.sum_congr rfl fun c _ => e2 c, ← coe_sum, ← coe_sum, ← EReal.coe_add, bias_sum, if_neg (by omega)]
  unfold s2
  rw [show 4 * g + 2 * (h / 2) + 1 = 4 * g + h from by omega]
  rw [score_parts z cum b (4 * g + h) (512 * n + j.val) (512 * k + r.val) (fun c => 1816 + 256 * g + (64 * h + c)) (fun c => 2328 + 256 * g + (128 * (h / 2) + (64 + c)))
    (fun d => by omega) (fun d => by omega)]

/-- A head whose scores are those of the attention stores the attention. -/
theorem headOut_attn (H : BlocksAre z cum b g n x0 x1 x2 x3 x4) (hn : n < 16) (h : ℕ) (hh : h < 4) {qt : FVec Ideal S256x512 .bf16} (j : Fin 512)
    (hs : ScoresAre qt x2 x3 h n j (s2 z cum b g n h j)) (d : Fin 64) :
    headOut qt x2 x3 x4 h n (ix3 0 d j) = ((attn z cum b (4 * g + h) d.val (512 * n + j.val) : ℝ) : EReal) := by
  rw [headOut_apply hs d (v := fun k => zr z b k (2840 + 64 * (4 * g + h) + d.val)) hn (fun k hk r => by
    rw [vCols_apply x4 h (512 * k) d r (by omega) (by omega), H.v]
    simp only
    rw [show 2840 + 256 * g + (64 * h + d.val) = 2840 + 64 * (4 * g + h) + d.val from by omega])]
  unfold attn s2
  simp only [two_rpow_div_log]

end Cert.Proof.PointValue
-- ==== Proof.Body.lean ====
/-  The body of the attention call is four copies of one head's work. -/
module

public import proofs.«01_k».proof.Proof.Block

@[expose] public section

set_option maxRecDepth 16384

noncomputable section

namespace Cert.Proof.Body

open Cert.KernelIdeal Cert.KernelIdeal.Gen Cert.Proof.Block
open Idealize.ShloMosaic Idealize.ShloMosaic.TcCoe Idealize.ShloMosaic.Tactic
open Idealize.SL.Sem

variable {F : FTy → Type} [FloatOps F] [Named F]

variable (𝒱 : Variants) (c : Dev nD) (bd : Option 𝒱.V) (i : grid0.Coords) (arg3 : Memref sig .tc .vmem S1x256x512 .bf16) (harg3 : arg3.IsWhole) (arg4 : Memref sig .tc .vmem S1x4x16x512 .bf16) (harg4 : arg4.IsWhole) (arg5 : Memref sig .tc .vmem S8192x256 .bf16) (harg5 : arg5.IsWhole) (arg6 : Memref sig .tc .vmem S1x2x8192x128 .bf16) (harg6 : arg6.IsWhole) (arg7 : Memref sig .tc .vmem S1x256x8192 .bf16) (harg7 : arg7.IsWhole) (arg8 : Memref sig .tc .vmem S1x256x512 .bf16) (harg8 : arg8.IsWhole)
  (x0 : Vec F S1x256x512 .bf16) (x1 : Vec F S1x4x16x512 .bf16) (x2 : Vec F S8192x256 .bf16) (x3 : Vec F S1x2x8192x128 .bf16) (x4 : Vec F S1x256x8192 .bf16)

/-- The carried values of the four heads. -/
abbrev Carries (F : FTy → Type) := FVec F S1x512 .f32 × FVec F S80x512 .f32 × FVec F S1x512 .f32 × FVec F S80x512 .f32 × FVec F S1x512 .f32 × FVec F S80x512 .f32 × FVec F S1x512 .f32 × FVec F S80x512 .f32

/-- Four heads' pairs as the eight carried values. -/
def pack (a b d e : Carry F) : Carries F := (a.1, a.2, b.1, b.2, d.1, d.2, e.1, e.2)

/-- One trip takes each head's step, the inputs read through their views. -/
theorem trip_view (arg2 : BitVec 32) (v11 v23 : FVec F S256x512 .bf16) (v31 : FVec F S128x512 .bf16) (v32 : Vec F S1x1x16x512 .bf16) (v36 : Vec F S1x64x512 .bf16) (v44 : Vec F S1x1x16x512 .bf16)
    (X5 : BufTy.Contents (Elt F) arg5.view.ty) (X6 : BufTy.Contents (Elt F) arg6.view.ty) (X7 : BufTy.Contents (Elt F) arg7.view.ty)
    (k : Fin (k0_t1_loop i).trips) (a b d e : Carry F) :
    tripR_k0_t1 (F := F) 𝒱 c bd i arg3 harg3 arg4 harg4 arg5 harg5 arg6 harg6 arg7 harg7 arg8 harg8 arg2 v11 v23 v31 v32 v36 v44
        X5 X6 X7 k (pack a b d e)
      = pack (step v11 (kaOf (arg5.view.read (Elt F) X5) (arg6.view.read (Elt F) X6) 0 (512 * k.val)) (voOf (arg7.view.read (Elt F) X7) 0 (512 * k.val)) a)
          (step v23 (kaOf (arg5.view.read (Elt F) X5) (arg6.view.read (Elt F) X6) 0 (512 * k.val)) (voOf (arg7.view.read (Elt F) X7) 1 (512 * k.val)) b)
          (step (k0_pay45 v31 v32) (kaOf (arg5.view.read (Elt F) X5) (arg6.view.read (Elt F) X6) 1 (512 * k.val)) (voOf (arg7.view.read (Elt F) X7) 2 (512 * k.val)) d)
          (step (k0_pay46 v36 v44) (kaOf (arg5.view.read (Elt F) X5) (arg6.view.read (Elt F) X6) 1 (512 * k.val)) (voOf (arg7.view.read (Elt F) X7) 3 (512 * k.val)) e) := by
  unfold kaOf voOf
  rw [← ld_kRows _ 0 _ (off1 i k) (k0_off1_inb i k), ← ld_kRows _ 1 _ (off3 i k) (k0_off3_inb i k),
    ← ld_aRows _ 0 _ (off2 i k) (k0_off2_inb i k), ← ld_aRows _ 1 _ (off4 i k) (k0_off4_inb i k),
    ← ld_vCols _ 0 _ (off5 i k) (k0_off5_inb i k), ← ld_vCols _ 1 _ (off6 i k) (k0_off6_inb i k),
    ← ld_vCols _ 2 _ (off7 i k) (k0_off7_inb i k), ← ld_vCols _ 3 _ (off8 i k) (k0_off8_inb i k)]
  unfold tripR_k0_t1 trip_k0_t1
  dsimp only
  rfl

/-- After `n` trips each head has taken `n` steps. -/
theorem st_view (arg2 : BitVec 32) (v11 v23 : FVec F S256x512 .bf16) (v31 : FVec F S128x512 .bf16) (v32 : Vec F S1x1x16x512 .bf16) (v36 : Vec F S1x64x512 .bf16) (v44 : Vec F S1x1x16x512 .bf16)
    (X5 : BufTy.Contents (Elt F) arg5.view.ty) (X6 : BufTy.Contents (Elt F) arg6.view.ty) (X7 : BufTy.Contents (Elt F) arg7.view.ty)
    (n : ℕ) (hn : n ≤ (k0_t1_loop i).trips) :
    st_k0_t1 (F := F) 𝒱 c bd i arg3 harg3 arg4 harg4 arg5 harg5 arg6 harg6 arg7 harg7 arg8 harg8 arg2 v11 v23 v31 v32 v36 v44
        X5 X6 X7 (pack start start start start) n
      = pack (headSt v11 (arg5.view.read (Elt F) X5) (arg6.view.read (Elt F) X6) (arg7.view.read (Elt F) X7) 0 n)
          (headSt v23 (arg5.view.read (Elt F) X5) (arg6.view.read (Elt F) X6) (arg7.view.read (Elt F) X7) 1 n)
          (headSt (k0_pay45 v31 v32) (arg5.view.read (Elt F) X5) (arg6.view.read (Elt F) X6) (arg7.view.read (Elt F) X7) 2 n)
          (headSt (k0_pay46 v36 v44) (arg5.view.read (Elt F) X5) (arg6.view.read (Elt F) X6) (arg7.view.read (Elt F) X7) 3 n) := by
  induction n with
  | zero => rfl
  | succ n ih =>
    have h := st_k0_t1_succ (F := F) 𝒱 c bd i arg3 harg3 arg4 harg4 arg5 harg5 arg6 harg6 arg7 harg7 arg8 harg8 arg2 v11 v23 v31 v32 v36 v44
      X5 X6 X7 (pack start start start start) ⟨n, hn⟩
    rw [h, ih (Nat.le_of_succ_le hn), trip_view]
    rfl

/-- With no trips the second loop leaves what it was given. -/
theorem st2_none (arg2 : BitVec 32) (v11 v23 : FVec F S256x512 .bf16) (v31 : FVec F S128x512 .bf16) (v32 : Vec F S1x1x16x512 .bf16) (v36 : Vec F S1x64x512 .bf16) (v44 : Vec F S1x1x16x512 .bf16) (v60 : BitVec 32)
    (X5 : BufTy.Contents (Elt F) arg5.view.ty) (X6 : BufTy.Contents (Elt F) arg6.view.ty) (X7 : BufTy.Contents (Elt F) arg7.view.ty)
    (init : Carries F) :
    st_k0_t2 (F := F) 𝒱 c bd i arg3 harg3 arg4 harg4 arg5 harg5 arg6 harg6 arg7 harg7 arg8 harg8 arg2 v11 v23 v31 v32 v36 v44 v60
        X5 X6 X7 init (k0_t2_loop i).trips = init := by
  rw [trips2]; rfl

/-- What the four heads store, last head first. -/
theorem pieces_eq :
    (kernelRun0_A c i arg3 harg3 arg4 harg4 arg5 harg5 arg6 harg6 arg7 harg7 arg8 harg8 x0 x1 x2 x3 x4).1
      = [⟨Rect.unit ![0, 192, 0] ![1, 64, 512] inb_S1x256x512_S1x64x512_0_192_0, headOut (qtOdd x0 x1 3) x2 x3 x4 3 (i 2).val⟩,
         ⟨Rect.unit ![0, 128, 0] ![1, 64, 512] inb_S1x256x512_S1x64x512_0_128_0, headOut (qtEven x0 x1 2) x2 x3 x4 2 (i 2).val⟩,
         ⟨Rect.unit ![0, 64, 0] ![1, 64, 512] inb_S1x256x512_S1x64x512_0_64_0, headOut (qtOdd x0 x1 1) x2 x3 x4 1 (i 2).val⟩,
         ⟨Rect.unit ![0, 0, 0] ![1, 64, 512] inb_S1x256x512_S1x64x512_0_0_0, headOut (qtEven x0 x1 0) x2 x3 x4 0 (i 2).val⟩] := by
  have e0 : arg3.view.read (Elt F) (harg3.unread x0) = x0 := harg3.read_unread x0
  have e1 : arg4.view.read (Elt F) (harg4.unread x1) = x1 := harg4.read_unread x1
  have e2 : arg5.view.read (Elt F) (harg5.unread x2) = x2 := harg5.read_unread x2
  have e3 : arg6.view.read (Elt F) (harg6.unread x3) = x3 := harg6.read_unread x3
  have e4 : arg7.view.read (Elt F) (harg7.unread x4) = x4 := harg7.read_unread x4
  unfold kernelRun0_A
  dsimp only
  sl_unfold_run_names
  generalize hSd : st_k0_t2 (F := F) _ _ _ _ _ _ _ _ _ _ _ _ _ _ _ _ _ _ _ _ _ _ _ _ _ _ _ _ _ = S
  have hS : S = pack (headSt (qtEvenOf (View.ld (arg3.view.read (Elt F) (harg3.unread x0)) (Rect.unit (s := S1x256x512) ![0, 0, 0] S1x64x512.size inb_S1x256x512_S1x64x512_0_0_0)) (View.ld (arg4.view.read (Elt F) (harg4.unread x1)) (Rect.unit (s := S1x4x16x512) ![0, 0, 0, 0] S1x1x16x512.size inb_S1x4x16x512_S1x1x16x512_0_0_0_0))) (arg5.view.read (Elt F) (harg5.unread x2)) (arg6.view.read (Elt F) (harg6.unread x3)) (arg7.view.read (Elt F) (harg7.unread x4)) 0 (i 2).val) (headSt (qtOddOf (View.ld (arg3.view.read (Elt F) (harg3.unread x0)) (Rect.unit (s := S1x256x512) ![0, 64, 0] S1x64x512.size inb_S1x256x512_S1x64x512_0_64_0)) (View.ld (arg4.view.read (Elt F) (harg4.unread x1)) (Rect.unit (s := S1x4x16x512) ![0, 1, 0, 0] S1x1x16x512.size inb_S1x4x16x512_S1x1x16x512_0_1_0_0))) (arg5.view.read (Elt F) (harg5.unread x2)) (arg6.view.read (Elt F) (harg6.unread x3)) (arg7.view.read (Elt F) (harg7.unread x4)) 1 (i 2).val)
          (headSt (qtEvenOf (View.ld (arg3.view.read (Elt F) (harg3.unread x0)) (Rect.unit (s := S1x256x512) ![0, 128, 0] S1x64x512.size inb_S1x256x512_S1x64x512_0_128_0)) (View.ld (arg4.view.read (Elt F) (harg4.unread x1)) (Rect.unit (s := S1x4x16x512) ![0, 2, 0, 0] S1x1x16x512.size inb_S1x4x16x512_S1x1x16x512_0_2_0_0))) (arg5.view.read (Elt F) (harg5.unread x2)) (arg6.view.read (Elt F) (harg6.unread x3)) (arg7.view.read (Elt F) (harg7.unread x4)) 2 (i 2).val) (headSt (qtOddOf (View.ld (arg3.view.read (Elt F) (harg3.unread x0)) (Rect.unit (s := S1x256x512) ![0, 192, 0] S1x64x512.size inb_S1x256x512_S1x64x512_0_192_0)) (View.ld (arg4.view.read (Elt F) (harg4.unread x1)) (Rect.unit (s := S1x4x16x512) ![0, 3, 0, 0] S1x1x16x512.size inb_S1x4x16x512_S1x1x16x512_0_3_0_0))) (arg5.view.read (Elt F) (harg5.unread x2)) (arg6.view.read (Elt F) (harg6.unread x3)) (arg7.view.read (Elt F) (harg7.unread x4)) 3 (i 2).val) := by
    rw [← hSd, st2_none]
    refine (st_view _ _ _ _ _ _ _ _ _ _ _ _ _ _ _ _ _ _ _ _ _ _ _ _ _ _ _ le_rfl).trans ?_
    rw [trips1]
    rfl
  have h0 : headSt (qtEvenOf (View.ld (arg3.view.read (Elt F) (harg3.unread x0)) (Rect.unit (s := S1x256x512) ![0, 0, 0] S1x64x512.size inb_S1x256x512_S1x64x512_0_0_0)) (View.ld (arg4.view.read (Elt F) (harg4.unread x1)) (Rect.unit (s := S1x4x16x512) ![0, 0, 0, 0] S1x1x16x512.size inb_S1x4x16x512_S1x1x16x512_0_0_0_0))) (arg5.view.read (Elt F) (harg5.unread x2)) (arg6.view.read (Elt F) (harg6.unread x3)) (arg7.view.read (Elt F) (harg7.unread x4)) 0 (i 2).val = (S.1, S.2.1) := by rw [hS]; rfl
  have h1 : headSt (qtOddOf (View.ld (arg3.view.read (Elt F) (harg3.unread x0)) (Rect.unit (s := S1x256x512) ![0, 64, 0] S1x64x512.size inb_S1x256x512_S1x64x512_0_64_0)) (View.ld (arg4.view.read (Elt F) (harg4.unread x1)) (Rect.unit (s := S1x4x16x512) ![0, 1, 0, 0] S1x1x16x512.size inb_S1x4x16x512_S1x1x16x512_0_1_0_0))) (arg5.view.read (Elt F) (harg5.unread x2)) (arg6.view.read (Elt F) (harg6.unread x3)) (arg7.view.read (Elt F) (harg7.unread x4)) 1 (i 2).val = (S.2.2.1, S.2.2.2.1) := by rw [hS]; rfl
  have h2 : headSt (qtEvenOf (View.ld (arg3.view.read (Elt F) (harg3.unread x0)) (Rect.unit (s := S1x256x512) ![0, 128, 0] S1x64x512.size inb_S1x256x512_S1x64x512_0_128_0)) (View.ld (arg4.view.read (Elt F) (harg4.unread x1)) (Rect.unit (s := S1x4x16x512) ![0, 2, 0, 0] S1x1x16x512.size inb_S1x4x16x512_S1x1x16x512_0_2_0_0))) (arg5.view.read (Elt F) (harg5.unread x2)) (arg6.view.read (Elt F) (harg6.unread x3)) (arg7.view.read (Elt F) (harg7.unread x4)) 2 (i 2).val = (S.2.2.2.2.1, S.2.2.2.2.2.1) := by rw [hS]; rfl
  have h3 : headSt (qtOddOf (View.ld (arg3.view.read (Elt F) (harg3.unread x0)) (Rect.unit (s := S1x256x512) ![0, 192, 0] S1x64x512.size inb_S1x256x512_S1x64x512_0_192_0)) (View.ld (arg4.view.read (Elt F) (harg4.unread x1)) (Rect.unit (s := S1x4x16x512) ![0, 3, 0, 0] S1x1x16x512.size inb_S1x4x16x512_S1x1x16x512_0_3_0_0))) (arg5.view.read (Elt F) (harg5.unread x2)) (arg6.view.read (Elt F) (harg6.unread x3)) (arg7.view.read (Elt F) (harg7.unread x4)) 3 (i 2).val = (S.2.2.2.2.2.2.1, S.2.2.2.2.2.2.2) := by rw [hS]; rfl
  unfold headOut qtOdd qtEven
  have q0 : qRows x0 0 = View.ld (arg3.view.read (Elt F) (harg3.unread x0)) (Rect.unit (s := S1x256x512) ![0, 0, 0] S1x64x512.size inb_S1x256x512_S1x64x512_0_0_0) := by
    rw [e0]; exact (ld_qRows x0 0 rfl _).symm
  have g0 : gRows x1 0 = View.ld (arg4.view.read (Elt F) (harg4.unread x1)) (Rect.unit (s := S1x4x16x512) ![0, 0, 0, 0] S1x1x16x512.size inb_S1x4x16x512_S1x1x16x512_0_0_0_0) := by
    rw [e1]; exact (ld_gRows x1 0 rfl _).symm
  have q1 : qRows x0 1 = View.ld (arg3.view.read (Elt F) (harg3.unread x0)) (Rect.unit (s := S1x256x512) ![0, 64, 0] S1x64x512.size inb_S1x256x512_S1x64x512_0_64_0) := by
    rw [e0]; exact (ld_qRows x0 1 rfl _).symm
  have g1 : gRows x1 1 = View.ld (arg4.view.read (Elt F) (harg4.unread x1)) (Rect.unit (s := S1x4x16x512) ![0, 1, 0, 0] S1x1x16x512.size inb_S1x4x16x512_S1x1x16x512_0_1_0_0) := by
    rw [e1]; exact (ld_gRows x1 1 rfl _).symm
  have q2 : qRows x0 2 = View.ld (arg3.view.read (Elt F) (harg3.unread x0)) (Rect.unit (s := S1x256x512) ![0, 128, 0] S1x64x512.size inb_S1x256x512_S1x64x512_0_128_0) := by
    rw [e0]; exact (ld_qRows x0 2 rfl _).symm
  have g2 : gRows x1 2 = View.ld (arg4.view.read (Elt F) (harg4.unread x1)) (Rect.unit (s := S1x4x16x512) ![0, 2, 0, 0] S1x1x16x512.size inb_S1x4x16x512_S1x1x16x512_0_2_0_0) := by
    rw [e1]; exact (ld_gRows x1 2 rfl _).symm
  have q3 : qRows x0 3 = View.ld (arg3.view.read (Elt F) (harg3.unread x0)) (Rect.unit (s := S1x256x512) ![0, 192, 0] S1x64x512.size inb_S1x256x512_S1x64x512_0_192_0) := by
    rw [e0]; exact (ld_qRows x0 3 rfl _).symm
  have g3 : gRows x1 3 = View.ld (arg4.view.read (Elt F) (harg4.unread x1)) (Rect.unit (s := S1x4x16x512) ![0, 3, 0, 0] S1x1x16x512.size inb_S1x4x16x512_S1x1x16x512_0_3_0_0) := by
    rw [e1]; exact (ld_gRows x1 3 rfl _).symm
  rw [q0, q1, q2, q3, g0, g1, g2, g3]
  rw [e2, e3, e4] at h0 h1 h2 h3
  rw [h0, h1, h2, h3]
  unfold kaOf voOf
  have a0 : kRows x2 0 (512 * (i 2).val) = View.ld (arg5.view.read (Elt F) (harg5.unread x2)) (Rect.unit (s := S8192x256) (k0_off17 i) S512x128.size (k0_off17_inb i)) := by
    rw [e2]; exact (ld_kRows x2 0 _ (off17 i) _).symm
  have a1 : kRows x2 1 (512 * (i 2).val) = View.ld (arg5.view.read (Elt F) (harg5.unread x2)) (Rect.unit (s := S8192x256) (k0_off19 i) S512x128.size (k0_off19_inb i)) := by
    rw [e2]; exact (ld_kRows x2 1 _ (off19 i) _).symm
  have b0 : aRows x3 0 (512 * (i 2).val) = View.ld (arg6.view.read (Elt F) (harg6.unread x3)) (Rect.unit (s := S1x2x8192x128) (k0_off18 i) S1x1x512x128.size (k0_off18_inb i)) := by
    rw [e3]; exact (ld_aRows x3 0 _ (off18 i) _).symm
  have b1 : aRows x3 1 (512 * (i 2).val) = View.ld (arg6.view.read (Elt F) (harg6.unread x3)) (Rect.unit (s := S1x2x8192x128) (k0_off20 i) S1x1x512x128.size (k0_off20_inb i)) := by
    rw [e3]; exact (ld_aRows x3 1 _ (off20 i) _).symm
  have d0 : vCols x4 0 (512 * (i 2).val) = View.ld (arg7.view.read (Elt F) (harg7.unread x4)) (Rect.unit (s := S1x256x8192) (k0_off21 i) S1x64x512.size (k0_off21_inb i)) := by
    rw [e4]; exact (ld_vCols x4 0 _ (off21 i) _).symm
  have d1 : vCols x4 1 (512 * (i 2).val) = View.ld (arg7.view.read (Elt F) (harg7.unread x4)) (Rect.unit (s := S1x256x8192) (k0_off22 i) S1x64x512.size (k0_off22_inb i)) := by
    rw [e4]; exact (ld_vCols x4 1 _ (off22 i) _).symm
  have d2 : vCols x4 2 (512 * (i 2).val) = View.ld (arg7.view.read (Elt F) (harg7.unread x4)) (Rect.unit (s := S1x256x8192) (k0_off23 i) S1x64x512.size (k0_off23_inb i)) := by
    rw [e4]; exact (ld_vCols x4 2 _ (off23 i) _).symm
  have d3 : vCols x4 3 (512 * (i 2).val) = View.ld (arg7.view.read (Elt F) (harg7.unread x4)) (Rect.unit (s := S1x256x8192) (k0_off24 i) S1x64x512.size (k0_off24_inb i)) := by
    rw [e4]; exact (ld_vCols x4 3 _ (off24 i) _).symm
  rw [a0, a1, b0, b1, d0, d1, d2, d3]
  clear hS hSd h0 h1 h2 h3
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))
  · rfl
  · rfl
  · rfl
  · rfl

end Cert.Proof.Body
-- ==== Proof.Array.lean ====
/-  The result array of the attention call, for finite arguments. -/
module

public import proofs.«01_k».proof.Proof.PointValue
public import proofs.«01_k».proof.Proof.Body
public import proofs.«01_k».proof.Proof.Gen.KernelIdeal.Value
public import Idealize.ShloMosaic.Lib.Pipeline.ValueKit

@[expose] public section

set_option maxRecDepth 16384

noncomputable section

open scoped BigOperators

namespace Cert.Proof.Array

open Cert.KernelIdeal Cert.KernelIdeal.Gen Cert.Proof.Block Cert.Proof.Body Cert.Proof.Prep Cert.Proof.Spec Cert.Proof.PrepValue Cert.Proof.PointValue
open Idealize.ShloMosaic Idealize.ShloMosaic.TcCoe Idealize.SL.Sem
open Idealize.ShloMosaic.Pipeline (Dat)

/-- Sequence of a point. -/
def bOf (t : Fin cfg0.N) : ℕ := (grid0.coords t 0).val
/-- Head group of a point. -/
def gOf (t : Fin cfg0.N) : ℕ := (grid0.coords t 1).val
/-- Query block of a point. -/
def nOf (t : Fin cfg0.N) : ℕ := (grid0.coords t 2).val

theorem bOf_lt (t : Fin cfg0.N) : bOf t < 2 := (grid0.coords t 0).isLt
theorem gOf_lt (t : Fin cfg0.N) : gOf t < 2 := (grid0.coords t 1).isLt
theorem nOf_lt (t : Fin cfg0.N) : nOf t < 16 := (grid0.coords t 2).isLt

/-! The blocks' numbers. -/

theorem idx0 : ∀ t : Fin cfg0.N, win0_0.index t (0 : Fin 3) = bOf t ∧ win0_0.index t (1 : Fin 3) = 3 + gOf t ∧ win0_0.index t (2 : Fin 3) = nOf t :=
  (by decide +kernel : ∀ t : Fin grid0.N, _)
theorem idx1 : ∀ t : Fin cfg0.N, win0_1.index t (0 : Fin 4) = bOf t ∧ win0_1.index t (1 : Fin 4) = gOf t ∧ win0_1.index t (2 : Fin 4) = 0 ∧ win0_1.index t (3 : Fin 4) = nOf t :=
  (by decide +kernel : ∀ t : Fin grid0.N, _)
theorem idx2 : ∀ t : Fin cfg0.N, win0_2.index t (0 : Fin 2) = bOf t ∧ win0_2.index t (1 : Fin 2) = 2 + gOf t :=
  (by decide +kernel : ∀ t : Fin grid0.N, _)
theorem idx3 : ∀ t : Fin cfg0.N, win0_3.index t (0 : Fin 4) = bOf t ∧ win0_3.index t (1 : Fin 4) = gOf t ∧ win0_3.index t (2 : Fin 4) = 0 ∧ win0_3.index t (3 : Fin 4) = 0 :=
  (by decide +kernel : ∀ t : Fin grid0.N, _)
theorem idx4 : ∀ t : Fin cfg0.N, win0_4.index t (0 : Fin 3) = bOf t ∧ win0_4.index t (1 : Fin 3) = 5 + gOf t ∧ win0_4.index t (2 : Fin 3) = 0 :=
  (by decide +kernel : ∀ t : Fin grid0.N, _)
theorem idx5 : ∀ t : Fin cfg0.N, win0_5.index t (0 : Fin 3) = bOf t ∧ win0_5.index t (1 : Fin 3) = gOf t ∧ win0_5.index t (2 : Fin 3) = nOf t :=
  (by decide +kernel : ∀ t : Fin grid0.N, _)

variable (m : (ℓ : Loc nD τ sig) → Buf (Elt Ideal) ℓ) (c : Dev nD)

/-! The blocks read at an element. -/

theorem iblk0_apply (t : Fin cfg0.N) (r : Fin 256) (j : Fin 512) : iblk m c 0 t (ix3 0 r j)
    = V m c main_v15 (ix3 ⟨bOf t, bOf_lt t⟩ ⟨768 + (256 * gOf t + r.val), by have := gOf_lt t; omega⟩ ⟨512 * nOf t + j.val, by have := nOf_lt t; omega⟩) := by
  obtain ⟨e0, e1, e2⟩ := idx0 t
  show V m c main_v15 (((cfg0.win 0).blk t).view.emb (ix3 0 r j)) = _
  refine congrArg _ (funext fun a => Fin.ext ?_)
  match a with
  | ⟨0, _⟩ => show win0_0.index t (0 : Fin 3) * 1 + 1 * 0 = bOf t; omega
  | ⟨1, _⟩ => show win0_0.index t (1 : Fin 3) * 256 + 1 * r.val = 768 + (256 * gOf t + r.val); omega
  | ⟨2, _⟩ => show win0_0.index t (2 : Fin 3) * 512 + 1 * j.val = 512 * nOf t + j.val; omega

theorem iblk1_apply (t : Fin cfg0.N) (h : Fin 4) (r : Fin 16) (j : Fin 512) : iblk m c 1 t (ix4 0 h r j)
    = V m c main_v37 (ix4 ⟨bOf t, bOf_lt t⟩ ⟨4 * gOf t + h.val, by have := gOf_lt t; omega⟩ r ⟨512 * nOf t + j.val, by have := nOf_lt t; omega⟩) := by
  obtain ⟨e0, e1, e2, e3⟩ := idx1 t
  show V m c main_v37 (((cfg0.win 1).blk t).view.emb (ix4 0 h r j)) = _
  refine congrArg _ (funext fun a => Fin.ext ?_)
  match a with
  | ⟨0, _⟩ => show win0_1.index t (0 : Fin 4) * 1 + 1 * 0 = bOf t; omega
  | ⟨1, _⟩ => show win0_1.index t (1 : Fin 4) * 4 + 1 * h.val = 4 * gOf t + h.val; omega
  | ⟨2, _⟩ => show win0_1.index t (2 : Fin 4) * 16 + 1 * r.val = r.val; omega
  | ⟨3, _⟩ => show win0_1.index t (3 : Fin 4) * 512 + 1 * j.val = 512 * nOf t + j.val; omega

theorem iblk2_apply (t : Fin cfg0.N) (k : Fin 8192) (r : Fin 256) : iblk m c 2 t (ix2 k r)
    = V m c main_v7 (ix2 ⟨8192 * bOf t + k.val, by have := bOf_lt t; omega⟩ ⟨512 + (256 * gOf t + r.val), by have := gOf_lt t; omega⟩) := by
  obtain ⟨e0, e1⟩ := idx2 t
  show V m c main_v7 (((cfg0.win 2).blk t).view.emb (ix2 k r)) = _
  refine congrArg _ (funext fun a => Fin.ext ?_)
  match a with
  | ⟨0, _⟩ => show win0_2.index t (0 : Fin 2) * 8192 + 1 * k.val = 8192 * bOf t + k.val; omega
  | ⟨1, _⟩ => show win0_2.index t (1 : Fin 2) * 256 + 1 * r.val = 512 + (256 * gOf t + r.val); omega

theorem iblk3_apply (t : Fin cfg0.N) (p : Fin 2) (k : Fin 8192) (q : Fin 128) : iblk m c 3 t (ix4 0 p k q)
    = V m c main_v48 (ix4 ⟨bOf t, bOf_lt t⟩ ⟨2 * gOf t + p.val, by have := gOf_lt t; omega⟩ k q) := by
  obtain ⟨e0, e1, e2, e3⟩ := idx3 t
  show V m c main_v48 (((cfg0.win 3).blk t).view.emb (ix4 0 p k q)) = _
  refine congrArg _ (funext fun a => Fin.ext ?_)
  match a with
  | ⟨0, _⟩ => show win0_3.index t (0 : Fin 4) * 1 + 1 * 0 = bOf t; omega
  | ⟨1, _⟩ => show win0_3.index t (1 : Fin 4) * 2 + 1 * p.val = 2 * gOf t + p.val; omega
  | ⟨2, _⟩ => show win0_3.index t (2 : Fin 4) * 8192 + 1 * k.val = k.val; omega
  | ⟨3, _⟩ => show win0_3.index t (3 : Fin 4) * 128 + 1 * q.val = q.val; omega

theorem iblk4_apply (t : Fin cfg0.N) (r : Fin 256) (k : Fin 8192) : iblk m c 4 t (ix3 0 r k)
    = V m c main_v15 (ix3 ⟨bOf t, bOf_lt t⟩ ⟨1280 + (256 * gOf t + r.val), by have := gOf_lt t; omega⟩ k) := by
  obtain ⟨e0, e1, e2⟩ := idx4 t
  show V m c main_v15 (((cfg0.win 4).blk t).view.emb (ix3 0 r k)) = _
  refine congrArg _ (funext fun a => Fin.ext ?_)
  match a with
  | ⟨0, _⟩ => show win0_4.index t (0 : Fin 3) * 1 + 1 * 0 = bOf t; omega
  | ⟨1, _⟩ => show win0_4.index t (1 : Fin 3) * 256 + 1 * r.val = 1280 + (256 * gOf t + r.val); omega
  | ⟨2, _⟩ => show win0_4.index t (2 : Fin 3) * 8192 + 1 * k.val = k.val; omega

theorem emb5 (t : Fin cfg0.N) (r : Fin 256) (j : Fin 512) : ((cfg0.win 5).blk t).view.emb (ix3 0 r j)
    = ix3 ⟨bOf t, bOf_lt t⟩ ⟨256 * gOf t + r.val, by have := gOf_lt t; omega⟩ ⟨512 * nOf t + j.val, by have := nOf_lt t; omega⟩ := by
  obtain ⟨e0, e1, e2⟩ := idx5 t
  refine funext fun a => Fin.ext ?_
  match a with
  | ⟨0, _⟩ => show win0_5.index t (0 : Fin 3) * 1 + 1 * 0 = bOf t; omega
  | ⟨1, _⟩ => show win0_5.index t (1 : Fin 3) * 256 + 1 * r.val = 256 * gOf t + r.val; omega
  | ⟨2, _⟩ => show win0_5.index t (2 : Fin 3) * 512 + 1 * j.val = 512 * nOf t + j.val; omega

/-- The arguments of the device. -/
abbrev zArg : FVec Ideal S2x8192x6432 .f32 := m ((c : Thread nD τ).loc main_arg0)
/-- The decay sums of the device. -/
abbrev cArg : FVec Ideal S2x8x8192 .f32 := m ((c : Thread nD τ).loc main_arg1)

/-- The blocks of a point, for finite arguments. -/
theorem blocksAre (hf : Spec.Finite (zArg m c) (cArg m c)) (t : Fin cfg0.N) :
    BlocksAre (zArg m c) (cArg m c) ⟨bOf t, bOf_lt t⟩ (gOf t) (nOf t) (iblk m c 0 t) (iblk m c 1 t) (iblk m c 2 t) (iblk m c 3 t) (iblk m c 4 t) where
  q r j := by
    have hg := gOf_lt t; have hn := nOf_lt t
    rw [iblk0_apply, V_zt]
    refine (zt_query (zArg m c) ⟨bOf t, bOf_lt t⟩ ⟨512 * nOf t + j.val, by omega⟩ ⟨256 * gOf t + r.val, by omega⟩).trans ?_
    rw [hf.z _ _ _ _ (by omega) (by omega)]
    simp only [Nat.add_assoc]
  bq h r j := by
    have hg := gOf_lt t; have hn := nOf_lt t
    rw [iblk1_apply, V_augq]
    refine (augq_apply (zArg m c) (cArg m c) hf ⟨bOf t, bOf_lt t⟩ ⟨4 * gOf t + h.val, by omega⟩ r ⟨512 * nOf t + j.val, by omega⟩).trans ?_
    refine congrArg (fun x : ℝ => (x : EReal)) ?_
    unfold qRow
    exact if_congr (by simp only; omega) rfl rfl
  k k r := by
    have hg := gOf_lt t; have hn := nOf_lt t
    rw [iblk2_apply, V_zk]
    refine (zk_apply (zArg m c) ⟨bOf t, bOf_lt t⟩ k ⟨256 * gOf t + r.val, by omega⟩).trans ?_
    rw [hf.z _ k.val _ k.isLt (by omega) (by omega)]
    simp only [Nat.add_assoc]
  bk p k q := by
    have hg := gOf_lt t; have hn := nOf_lt t
    rw [iblk3_apply, V_augk]
    refine (augk_apply (zArg m c) (cArg m c) hf ⟨bOf t, bOf_lt t⟩ ⟨2 * gOf t + p.val, by omega⟩ k q).trans ?_
    simp only
    rw [show 2 * (2 * gOf t + p.val) = 4 * gOf t + 2 * p.val from by omega]
  v r k := by
    have hg := gOf_lt t; have hn := nOf_lt t
    rw [iblk4_apply, V_zt]
    refine (zt_value (zArg m c) ⟨bOf t, bOf_lt t⟩ k ⟨256 * gOf t + r.val, by omega⟩).trans ?_
    rw [hf.z _ k.val _ k.isLt (by omega) (by omega)]
    simp only [Nat.add_assoc]

/-- The result: at sequence, row and query the attention of the row's head and feature. -/
def result : Buf (Elt Ideal) ((c : Thread nD τ).loc main_v49) := fun i : S2x512x8192.Idx =>
  ((attn (zArg m c) (cArg m c) (i 0) ((i 1).val / 64) ((i 1).val % 64) (i 2).val : ℝ) : EReal)

/-- The block of the result at a point. -/
def block (t : Fin cfg0.N) (y : S1x256x512.Idx) : EReal :=
  ((attn (zArg m c) (cArg m c) ⟨bOf t, bOf_lt t⟩ (4 * gOf t + (y 1).val / 64) ((y 1).val % 64) (512 * nOf t + (y 2).val) : ℝ) : EReal)

/-- What head `h` stores is the block's rows `64 h` to `64 h + 63`. -/
theorem head_block (hf : Spec.Finite (zArg m c) (cArg m c)) (t : Fin cfg0.N) (h : ℕ) (hh : h < 4) {qt : FVec Ideal S256x512 .bf16}
    (hs : ∀ j, Head.ScoresAre qt (iblk m c 2 t) (iblk m c 3 t) h (nOf t) j (s2 (zArg m c) (cArg m c) ⟨bOf t, bOf_lt t⟩ (gOf t) (nOf t) h j))
    (x : S1x64x512.Idx) (y : S1x256x512.Idx) (h1 : (y 1).val = 64 * h + (x 1).val) (h2 : (y 2).val = (x 2).val) :
    headOut qt (iblk m c 2 t) (iblk m c 3 t) (iblk m c 4 t) h (nOf t) x = block m c t y := by
  obtain ⟨d, j, rfl⟩ : ∃ (d : Fin 64) (j : Fin 512), x = ix3 0 d j := ⟨x 1, x 2, funext fun a => match a with
    | ⟨0, _⟩ => Fin.ext (Nat.lt_one_iff.mp (x 0).isLt)
    | ⟨1, _⟩ => rfl
    | ⟨2, _⟩ => rfl⟩
  replace h1 : (y 1).val = 64 * h + d.val := h1
  replace h2 : (y 2).val = j.val := h2
  rw [headOut_attn (blocksAre m c hf t) (nOf_lt t) h hh j (hs j) d]
  unfold block
  rw [h1, h2, show (64 * h + d.val) / 64 = h from by omega, show (64 * h + d.val) % 64 = d.val from by omega]

/-- What a point leaves in the output's buffer: its block of the result. -/
theorem out_eq (hf : Spec.Finite (zArg m c) (cArg m c)) (t : Fin cfg0.N) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t)
      (iblk m c 0 t) (iblk m c 1 t) (iblk m c 2 t) (iblk m c 3 t) (iblk m c 4 t) = block m c t := by
  unfold out0_A_5
  rw [View.read_writes_eq_canon _ _ _ (cover0_A_5 c _ _ _ _ _ _ _ _ _ _ _ _ _ _ _ _ _ _)]
  have hcov := cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t)
      (iblk m c 0 t) (iblk m c 1 t) (iblk m c 2 t) (iblk m c 3 t) (iblk m c 4 t)
  rw [pieces_eq] at hcov ⊢
  have H := blocksAre m c hf t
  funext y
  refine View.canon_apply_of_pieces (Val := Elt Ideal) (e := .bf16) (block m c t) _ (fun p hp x => ?_) y (hcov y)
  simp only [List.mem_cons, List.not_mem_nil, or_false] at hp
  rcases hp with rfl | rfl | rfl | rfl
  · exact head_block m c hf t 3 (by omega) (scoresAre_odd H (nOf_lt t) 3 (by omega) rfl) x _ (by show 192 + 1 * _ = _; omega) (by show 0 + 1 * _ = _; omega)
  · exact head_block m c hf t 2 (by omega) (scoresAre_even H (nOf_lt t) 2 (by omega) rfl) x _ (by show 128 + 1 * _ = _; omega) (by show 0 + 1 * _ = _; omega)
  · exact head_block m c hf t 1 (by omega) (scoresAre_odd H (nOf_lt t) 1 (by omega) rfl) x _ (by show 64 + 1 * _ = _; omega) (by show 0 + 1 * _ = _; omega)
  · exact head_block m c hf t 0 (by omega) (scoresAre_even H (nOf_lt t) 0 (by omega) rfl) x _ (by show 0 + 1 * _ = _; omega) (by show 0 + 1 * _ = _; omega)

/-- The block of the result read through the window. -/
theorem result_emb (t : Fin cfg0.N) (y : S1x256x512.Idx) : result m c (((cfg0.win 5).blk t).view.emb y) = block m c t y := by
  obtain ⟨r, j, rfl⟩ : ∃ (r : Fin 256) (j : Fin 512), y = ix3 0 r j := ⟨y 1, y 2, funext fun a => match a with
    | ⟨0, _⟩ => Fin.ext (Nat.lt_one_iff.mp (y 0).isLt)
    | ⟨1, _⟩ => rfl
    | ⟨2, _⟩ => rfl⟩
  refine (congrArg (result m c) (emb5 t r j)).trans ?_
  show ((attn _ _ ⟨bOf t, bOf_lt t⟩ ((256 * gOf t + r.val) / 64) ((256 * gOf t + r.val) % 64) (512 * nOf t + j.val) : ℝ) : EReal) = _
  rw [show (256 * gOf t + r.val) / 64 = 4 * gOf t + r.val / 64 from by omega, show (256 * gOf t + r.val) % 64 = r.val % 64 from by omega]
  rfl

/-- What a point writes back is its block of the result. -/
theorem flushed_eq (hf : Spec.Finite (zArg m c) (cArg m c)) (t : Fin cfg0.N) :
    (dats m 0 c).flushed 5 t = ((cfg0.win 5).blk t).view.read (Elt Ideal) (result m c) := by
  rw [Value.flushed5_A, out_eq m c hf t]
  funext y
  exact (result_emb m c t y).symm

/-- The result array after the run. -/
theorem final (hf : Spec.Finite (zArg m c) (cArg m c)) : (dats m 0 c).arrAt 5 cfg0.N = result m c :=
  (dats m 0 c).arrAt_eq_of_cover 5 (result m c) (fun t _ => flushed_eq m c hf t)
    ((by decide +kernel : (cfg0.win 5).Covers).cover _ (Memref.isWhole_whole _))

end Cert.Proof.Array
-- ==== Proof.Reference.lean ====
/-  The reference read at an element. -/
module

public import proofs.«01_k».proof.Proof.Gen.ReferenceIdeal.Read
public import proofs.«01_k».proof.Proof.Spec
public import Idealize.ShloMosaic.Lib.KernelVsHost
public import proofs.«01_k».proof.Proof.Softmax

@[expose] public section

set_option maxRecDepth 16384

noncomputable section

open scoped BigOperators

namespace Cert.Proof.Reference

open Cert.ReferenceIdeal Cert.ReferenceIdeal.Gen Cert.ReferenceIdeal.Read Cert.Proof.Spec Cert.Proof.Softmax
open Idealize.ShloMosaic

variable (z : FVec Ideal S2x8192x6432 .f32) (cum : FVec Ideal S2x8x8192 .f32)

/-- Feature `d` of the query of token `t` in head `h`. -/
theorem q_apply (b : Fin 2) (t : Fin 8192) (h : Fin 8) (d : Fin 64) :
    val_main_v3 (F := Ideal) z (ix4 b t h d) = (z (ix3 b t ⟨1816 + 64 * h.val + d.val, by omega⟩) : EReal) := by
  pointwise [val_main_v3, val_main_v2, val_main_v1, val_main_v0]
  congr 2
  apply Fin.ext
  show 1816 + (h.val * 64 + d.val) = _
  show _ = 1816 + 64 * h.val + d.val
  omega

/-- Feature `d` of the key of token `t` in head `h`. -/
theorem k_apply (b : Fin 2) (t : Fin 8192) (h : Fin 8) (d : Fin 64) :
    val_main_v5 (F := Ideal) z (ix4 b t h d) = (z (ix3 b t ⟨2328 + 64 * h.val + d.val, by omega⟩) : EReal) := by
  pointwise [val_main_v5, val_main_v4, val_main_v1, val_main_v0]
  congr 2
  apply Fin.ext
  show 1816 + (512 + h.val * 64 + d.val) = _
  show _ = 2328 + 64 * h.val + d.val
  omega

/-- Feature `d` of the value of token `t` in head `h`. -/
theorem v_apply (b : Fin 2) (t : Fin 8192) (h : Fin 8) (d : Fin 64) :
    val_main_v7 (F := Ideal) z (ix4 b t h d) = (z (ix3 b t ⟨2840 + 64 * h.val + d.val, by omega⟩) : EReal) := by
  pointwise [val_main_v7, val_main_v6, val_main_v1, val_main_v0]
  congr 2
  apply Fin.ext
  show 1816 + (1024 + h.val * 64 + d.val) = _
  show _ = 2840 + 64 * h.val + d.val
  omega

/-- Comparing two small numbers as words. -/
theorem sle_small (a b : ℕ) (ha : a < 8192) (hb : b < 8192) :
    IntOp.cmpi CmpIPredicate.sle (BitVec.ofNat 32 a) (BitVec.ofNat 32 b) = BitVec.ofBool (decide (a ≤ b)) := by
  unfold IntOp.cmpi
  congr 1
  rw [BitVec.sle_eq_decide]
  congr 1
  rw [BitVec.toInt_eq_toNat_of_lt (by simp; omega), BitVec.toInt_eq_toNat_of_lt (by simp; omega)]
  simp
  omega

/-- Key `k` is visible from query `q` where it is not later. -/
theorem mask_apply (b : Fin 2) (h : Fin 8) (q k : Fin 8192) :
    val_main_call0_v1 (F := Ideal) (ix4 b h q k) = BitVec.ofBool (decide (k.val ≤ q.val)) := by
  pointwise [val_main_call0_v1, val_main_v14, val_main_v13, val_main_v12, val_main_v11, val_main_v10, val_main_v9, val_main_v8]
  exact sle_small _ _ k.isLt q.isLt

/-- The score of a query against a key. -/
theorem score_apply (b : Fin 2) (h : Fin 8) (q k : Fin 8192) :
    val_main_v23 (F := Ideal) z cum (ix4 b h q k) = (∑ d : Fin 64, val_main_v3 (F := Ideal) z (ix4 b q h d) * val_main_v5 (F := Ideal) z (ix4 b k h d)) * ((1 / 8 : ℝ) : EReal) + cum (ix3 b h q) - cum (ix3 b h k) := by
  have h8 : Ideal.ofBits FTy.f32 1040187392#32 = ((1 / 8 : ℝ) : EReal) := by
    simp [Ideal.ofBits, Ideal.ieee, -EReal.coe_mul]
    norm_num
  pointwise [val_main_v23, val_main_v22, val_main_v21, val_main_v20, val_main_v19, val_main_v18, val_main_v17, val_main_v16, val_main_v15, val_main_cst]
  rw [h8]

/-- The largest score of a query. -/
theorem max_apply (b : Fin 2) (h : Fin 8) (q : Fin 8192) :
    val_main_v27 (F := Ideal) z cum (ix3 b h q) = max ⊥ ((Finset.univ : Finset (Fin 8192)).fold max ⊥ fun k => val_main_v24 (F := Ideal) z cum (ix4 b h q k)) := by
  have hb : Ideal.ofBits FTy.f32 4286578688#32 = ⊥ := by simp [Ideal.ofBits, Ideal.ieee]
  rw [val_main_v27_apply, val_main_v26_apply]
  unfold val_main_v25 val_main_cst_1
  generalize hy : (val_main_v24 (F := Ideal) z cum : FVec Ideal S2x8x8192x8192 .f32) = y
  have e : Host.reduce (FloatOps.maximumf (F := Ideal) (φ := .f32)) y (constant (F := Ideal) S_ .f32 0xFF800000#32) reducesTo_S2x8x8192x8192_S2x8x8192_d3 h_S_ (ix3 b h q)
      = (Finset.univ : Finset (Fin 8192)).fold max ⊥ fun k => (y (ix4 b h q k) : EReal) := by
    refine (congrFun (hostReduce_maximumf_eq_multiReduction (F := Ideal) (φ := .f32) y 0xFF800000#32 reducesTo_S2x8x8192x8192_S2x8x8192_d3 h_S_ (by decide) (by decide) (by decide)) _).trans ?_
    refine (Ideal.multiReduction_maximumf_single _ _ _ _ _ _).trans ?_
    show Finset.fold max (Ideal.ofBits FTy.f32 4286578688#32) _ _ = _
    rw [hb]
    refine congrArg (fun f => Finset.fold max ⊥ f Finset.univ) (funext fun k => ?_)
    exact congrArg y (funext fun a => Fin.ext (by match a with | ⟨0, _⟩ => rfl | ⟨1, _⟩ => rfl | ⟨2, _⟩ => rfl | ⟨3, _⟩ => rfl))
  rw [e]
  show max (Ideal.ofBits FTy.f32 4286578688#32) _ = _
  rw [hb]

/-- The weight of a key before masking: a softmax. -/
theorem weight_apply (b : Fin 2) (h : Fin 8) (q k : Fin 8192) :
    val_main_v35 (F := Ideal) z cum (ix4 b h q k)
      = Ideal.div (Ideal.exp (val_main_v24 (F := Ideal) z cum (ix4 b h q k) - val_main_v27 (F := Ideal) z cum (ix3 b h q)))
          (∑ x : Fin 8192, Ideal.exp (val_main_v24 (F := Ideal) z cum (ix4 b h q x) - val_main_v27 (F := Ideal) z cum (ix3 b h q))) := by
  pointwise [val_main_v35, val_main_v34, val_main_v33, val_main_v32, val_main_v31, val_main_v30, val_main_v29, val_main_v28, val_main_cst_3]

/-- The masked score. -/
theorem masked_apply (b : Fin 2) (h : Fin 8) (q k : Fin 8192) :
    val_main_v24 (F := Ideal) z cum (ix4 b h q k) = if k.val ≤ q.val then val_main_v23 (F := Ideal) z cum (ix4 b h q k) else (⊥ : EReal) := by
  have hb : Ideal.ofBits FTy.f32 4286578688#32 = ⊥ := by simp [Ideal.ofBits, Ideal.ieee]
  rw [val_main_v24_apply, mask_apply]
  by_cases hk : k.val ≤ q.val
  · simp [hk, Scalar.select]
  · rw [if_neg hk]
    simp only [hk, decide_false, Scalar.select]
    exact hb

/-- The masked weight. -/
theorem masked_weight_apply (b : Fin 2) (h : Fin 8) (q k : Fin 8192) :
    val_main_v36 (F := Ideal) z cum (ix4 b h q k) = if k.val ≤ q.val then val_main_v35 (F := Ideal) z cum (ix4 b h q k) else (0 : EReal) := by
  have hm : val_main_call1_v1 (F := Ideal) (ix4 b h q k) = BitVec.ofBool (decide (k.val ≤ q.val)) := mask_apply b h q k
  have hz : Ideal.ofBits FTy.f32 0#32 = 0 := by simp [Ideal.ofBits, Ideal.ieee]
  rw [val_main_v36_apply, hm]
  by_cases hk : k.val ≤ q.val
  · simp [hk, Scalar.select]
  · rw [if_neg hk]
    simp only [hk, decide_false, Scalar.select]
    exact hz

/-- An output feature: the values weighted. -/
theorem out_apply (b : Fin 2) (h : Fin 8) (d : Fin 64) (q : Fin 8192) :
    val_main_v41 (F := Ideal) z cum (ix3 b ⟨64 * h.val + d.val, by omega⟩ q) = ∑ k : Fin 8192, val_main_v7 (F := Ideal) z (ix4 b k h d) * val_main_v36 (F := Ideal) z cum (ix4 b h q k) := by
  pointwise [val_main_v41, val_main_v40, val_main_v39, val_main_v38, val_main_v37]

/-- A score of finite arguments. -/
theorem score_real (hf : Finite z cum) (b : Fin 2) (h : Fin 8) (q k : Fin 8192) :
    val_main_v23 (F := Ideal) z cum (ix4 b h q k) = ((score z cum b h.val q.val k.val : ℝ) : EReal) := by
  rw [score_apply]
  have e : ∀ d : Fin 64, val_main_v3 (F := Ideal) z (ix4 b q h d) * val_main_v5 (F := Ideal) z (ix4 b k h d)
      = ((zr z b q.val (1816 + 64 * h.val + d.val) * zr z b k.val (2328 + 64 * h.val + d.val) : ℝ) : EReal) := fun d => by
    rw [q_apply, k_apply, hf.z b q.val _ q.isLt (by omega) (by omega), hf.z b k.val _ k.isLt (by omega) (by omega), ← EReal.coe_mul]
  rw [Finset.sum_congr rfl fun d _ => e d, ← coe_sum, hf.cum b h.val q.val h.isLt q.isLt, hf.cum b h.val k.val h.isLt k.isLt]
  rw [← EReal.coe_mul, ← EReal.coe_add, ← EReal.coe_sub]
  rfl

/-- The reference at an element, of finite arguments. -/
theorem ref_apply (hf : Finite z cum) (b : Fin 2) (h : Fin 8) (d : Fin 64) (q : Fin 8192) :
    val_main_v41 (F := Ideal) z cum (ix3 b ⟨64 * h.val + d.val, by omega⟩ q) = ((attn z cum b h.val d.val q.val : ℝ) : EReal) := by
  rw [out_apply]
  have key := two_pass (fun k : Fin 8192 => k.val ≤ q.val) (fun k => score z cum b h.val q.val k.val) (fun k => zr z b k.val (2840 + 64 * h.val + d.val))
    (fun k => val_main_v24 (F := Ideal) z cum (ix4 b h q k)) (fun k => val_main_v7 (F := Ideal) z (ix4 b k h d)) ⟨q, le_refl _⟩
    (fun k => by rw [masked_apply, score_real z cum hf])
    (fun k => by rw [v_apply, hf.z b k.val _ k.isLt (by omega) (by omega)])
  rw [zero_add] at key
  refine Eq.trans (Finset.sum_congr rfl fun k _ => ?_) key
  rw [masked_weight_apply, weight_apply, max_apply]

end Cert.Proof.Reference
-- ==== Proof.Finite.lean ====
/-  The precondition read: the arguments the attention takes are real numbers. -/
module

public import proofs.«01_k».proof.Proof.Gen.Pre_finite
public import proofs.«01_k».proof.Proof.Spec
public import Idealize.ShloMosaic.Lib.ReduceAll
public import Idealize.ShloMosaic.Lib.Pointwise

@[expose] public section

set_option maxRecDepth 16384

noncomputable section

namespace Cert.Proof.Finite

open Cert.Pre_finite Cert.Pre_finite.Gen Cert.Proof.Spec
open Idealize.ShloMosaic

/-- A value whose magnitude is below infinity is a real number. -/
theorem real_of_abs_lt (x : EReal) (h : Ideal.cmp .olt (max x (-x)) (Ideal.ofBits FTy.f32 0x7F800000#32) = 1#1) :
    x = ((x.toReal : ℝ) : EReal) := by
  have ht : Ideal.ofBits FTy.f32 0x7F800000#32 = ⊤ := by simp [Ideal.ofBits, Ideal.ieee]
  rw [ht] at h
  induction x with
  | bot => simp [Ideal.cmp] at h
  | top => simp [Ideal.cmp] at h
  | coe r => rfl

instance : Subsingleton S_.Idx := ⟨fun a b => funext fun i => i.elim0⟩

/-- The columns the precondition looks at. -/
theorem cols_apply (z : FVec Ideal ZShape .f32) (b : Fin 2) (t : Fin 8192) (r : Fin 1536) :
    extractStridedSlice S2x8192x1536 ![0, 0, 1816] z slices_S2x8192x6432_S2x8192x1536_0_0_1816 (ix3 b t r) = (z (ix3 b t ⟨1816 + r.val, by omega⟩) : EReal) := by
  pointwise []

/-- The precondition gives real arguments. -/
theorem finite_of_pre (z : FVec Ideal ZShape .f32) (cum : FVec Ideal CShape .f32) (h : fn (F := Ideal) z cum = fun _ => 1#1) :
    Spec.Finite z cum := by
  have h0 := congrFun h (fun a => a.elim0)
  dsimp only [fn, andi] at h0
  obtain ⟨hz, hc⟩ := IntOp.andi_eq_one.mp h0
  constructor
  · intro b t col ht h1 h2
    have e : Ideal.cmp .olt (max _ (-_)) (Ideal.ofBits FTy.f32 0x7F800000#32) = 1#1 := Host.reduce_andi_all _ _ _ _ _ hz (ix3 b ⟨t, ht⟩ ⟨col - 1816, by omega⟩)
    rw [cols_apply] at e
    refine (Eq.trans ?_ (real_of_abs_lt _ e)).trans ?_
    · exact congrArg (fun k => z (ix3 b ⟨t, ht⟩ k)) (Fin.ext (by simp; omega))
    · unfold zr
      refine congrArg (fun k : EReal => ((k.toReal : ℝ) : EReal)) (congrArg₂ (fun k l => z (ix3 b k l)) (Fin.ext ?_) (Fin.ext ?_))
      · simp; omega
      · simp; omega
  · intro b hh t hh' ht
    have e : Ideal.cmp .olt (max _ (-_)) (Ideal.ofBits FTy.f32 0x7F800000#32) = 1#1 := Host.reduce_andi_all _ _ _ _ _ hc (ix3 b ⟨hh, hh'⟩ ⟨t, ht⟩)
    refine (real_of_abs_lt _ e).trans ?_
    unfold cr
    refine congrArg (fun k : EReal => ((k.toReal : ℝ) : EReal)) (congrArg₂ (fun k l => cum (ix3 b k l)) (Fin.ext ?_) (Fin.ext ?_))
    · simp; omega
    · simp; omega

end Cert.Proof.Finite
-- ==== Proof.Claims.lean ====
/-  The claims. -/
module

public import proofs.«01_k».proof.Defs
public import proofs.«01_k».proof.Proof.Array
public import proofs.«01_k».proof.Proof.Reference
public import proofs.«01_k».proof.Proof.Finite
public import proofs.«01_k».proof.Proof.Gen.Kernel.Frame
public import proofs.«01_k».proof.Proof.Gen.ReferenceIdeal.Run

@[expose] public section

set_option maxRecDepth 16384

noncomputable section

namespace Cert.Proof.Claims

open Cert.Proof.Spec
open Idealize.ShloMosaic Idealize.ShloMosaic.TcCoe Idealize.SL.Sem

/-- The two literals the kernel names stand for the exact numbers. -/
theorem preserves : Cert.preserves_Kernel_KernelIdeal :=
  ⟨IdealRules.named_const.statement Cert.KernelIdeal.κ "qs" .f32 0x3E38AA3B#32 _ rfl,
    IdealRules.named_const.statement Cert.KernelIdeal.κ "mask" .f32 0xF149F2CA#32 _ rfl⟩

/-- The reference's result, for finite arguments, is the attention. -/
theorem reference_eq (z : FVec Ideal ZShape .f32) (cum : FVec Ideal CShape .f32) (hf : Spec.Finite z cum) :
    Cert.ReferenceIdeal.Read.val_main_v41 (F := Ideal) z cum
      = fun i : Cert.KernelIdeal.S2x512x8192.Idx => ((attn z cum (i 0) ((i 1).val / 64) ((i 1).val % 64) (i 2).val : ℝ) : EReal) := by
  funext i
  obtain ⟨b, r, q, rfl⟩ : ∃ (b : Fin 2) (r : Fin 512) (q : Fin 8192), i = ix3 b r q :=
    ⟨i 0, i 1, i 2, funext fun a => match a with | ⟨0, _⟩ => rfl | ⟨1, _⟩ => rfl | ⟨2, _⟩ => rfl⟩
  have e := Reference.ref_apply z cum hf b ⟨r.val / 64, by omega⟩ ⟨r.val % 64, by omega⟩ q
  have hr : (⟨64 * (r.val / 64) + r.val % 64, by omega⟩ : Fin 512) = r := Fin.ext (by simp only; omega)
  simp only [hr] at e
  exact e

/-- On finite arguments the kernel and the reference end with the same array. -/
theorem algebraic : Cert.algebraic_KernelIdeal_ReferenceIdeal_pre_finite := by
  intro m g m' g' hpre hargs
  have hf : ∀ c, Spec.Finite (Array.zArg m c) (Array.cArg m c) := fun c => Finite.finite_of_pre _ _ (hpre c)
  refine ⟨fun c => Array.result m c, ?_, ?_⟩
  · refine (θ_run _ _ _).mono (fun r h c => ?_) (Cert.KernelIdeal.Value.run_blocks m g)
    exact ⟨(h c).1.trans (Array.final m c (hf c)), (h c).2.1, (h c).2.2⟩
  · refine (θ_run _ _ _).mono (fun r h c => ?_) (Cert.ReferenceIdeal.Value.run m' g')
    refine ⟨(h c).1.trans ?_, (h c).2.1, (h c).2.2⟩
    rw [Cert.ReferenceIdeal.Read.val_main_v41_eq, (hargs c).1, (hargs c).2]
    exact reference_eq _ _ (hf c)

/-- The reference runs, keeps both arguments and ends with every counter at zero: it declares no semaphore. -/
theorem reference_quiescent : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same on finite arguments. -/
theorem reference_quiescent_pre : Cert.quiescent_ReferenceIdeal_pre_finite := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof.Claims
-- ==== Proof.ExpertsBody.lean ====
/-  The body of the experts call, run once: what it leaves in the output block and in the two weight buffers. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import Idealize.ShloMosaic.Lib.VecWindow
public import Idealize.ShloMosaic.Lib.WholeRead

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables as the body is handed them. -/
abbrev tbM0 : Memref sig .tc .smem S288 .i32 := Memref.whole main_v12
abbrev htbM0 : tbM0.IsWhole := Memref.isWhole_whole _
abbrev tbM1 : Memref sig .tc .smem S1 .i32 := Memref.whole main_v16
abbrev htbM1 : tbM1.IsWhole := Memref.isWhole_whole _

/-- A table's buffer on a core, and half of it held. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- Every eighth row of a block, from row `s`. -/
def rowsFrom (x : Vec F S2048x128 .f32) (s : Fin 8) : Vec F S256x128 .f32 :=
  fun j => x (ix2 ⟨8 * (j 0).val + s.val, by have := (j 0).isLt; simp only [S256x128, Matrix.cons_val_zero] at this; omega⟩ (j 1))

/-- The gate half of the first product. -/
def gateOf (x : Vec F S2048x128 .f32) (w : Vec F S1024x2048 .bf16) (b : Vec F S1x1x1x2048 .f32) : FVec F S256x1024 .f32 :=
  k0_pay5 (rowsFrom x 0) (rowsFrom x 1) (rowsFrom x 2) (rowsFrom x 3) (rowsFrom x 4) (rowsFrom x 5) (rowsFrom x 6) (rowsFrom x 7) w b

/-- The other half. -/
def upOf (x : Vec F S2048x128 .f32) (w : Vec F S1024x2048 .bf16) (b : Vec F S1x1x1x2048 .f32) : FVec F S256x1024 .f32 :=
  k0_pay6 (rowsFrom x 0) (rowsFrom x 1) (rowsFrom x 2) (rowsFrom x 3) (rowsFrom x 4) (rowsFrom x 5) (rowsFrom x 6) (rowsFrom x 7) w b

/-- The expert's 256 rows of 1024. -/
def rowsOut (x : Vec F S2048x128 .f32) (w : Vec F S1024x2048 .bf16) (b : Vec F S1x1x1x2048 .f32)
    (w' : Vec F S1024x1024 .bf16) (b' : Vec F S1x1x1x1024 .f32) : FVec F S256x1024 .f32 :=
  k0_pay8 (gateOf x w b) (upOf x w b) k0_pay7 w' b'

/-- 256 rows of 1024 laid out as 2048 rows of 128. -/
def spread (R : FVec F S256x1024 .f32) : Vec F S2048x128 .f32 :=
  fun j => R (ix2 ⟨(j 0).val / 8, by have h : (j 0).val < 2048 := (j 0).isLt; omega⟩
    ⟨128 * ((j 0).val % 8) + (j 1).val, by have h : (j 1).val < 128 := (j 1).isLt; omega⟩)

/-- The expert's rows, laid out as 2048 rows of 128. -/
def blockOut (x : Vec F S2048x128 .f32) (w : Vec F S1024x2048 .bf16) (b : Vec F S1x1x1x2048 .f32)
    (w' : Vec F S1024x1024 .bf16) (b' : Vec F S1x1x1x1024 .f32) : Vec F S2048x128 .f32 :=
  spread (rowsOut x w b w' b')

/-- The rows of a block that a load of every eighth row reads. -/
theorem rows_read (m : Memref sig .tc .vmem S2048x128 .f32) (h : m.IsWhole) (x : Vec F S2048x128 .f32) (s : Fin 8)
    (inb : ∀ a, S256x128.size a = 0 ∨ (![s.val, 0] : Fin 2 → ℕ) a + (![8, 1] : Fin 2 → ℕ) a * (S256x128.size a - 1) < S2048x128.size a) :
    View.readAt (Elt F) m.view (⟨![s.val, 0], S256x128.size, ![8, 1], inb⟩ : LoadRect S2048x128) (h.unread x) = rowsFrom x s := by
  funext j
  rw [h.readAt_unread]
  refine congrArg x (funext fun a => Fin.ext ?_)
  match a with
  | ⟨0, _⟩ => exact Nat.add_comm _ _
  | ⟨1, _⟩ => exact (Nat.zero_add _).trans (Nat.one_mul _)

/-- One column slice is what the layout holds in the rows it goes to. -/
theorem rows_piece (R : FVec F S256x1024 .f32) (s : Fin 8) (o : ℕ) (ho : o = 128 * s.val)
    (inb : ∀ a, S256x128.size a = 0 ∨ (![s.val, 0] : Fin 2 → ℕ) a + (![8, 1] : Fin 2 → ℕ) a * (S256x128.size a - 1) < S2048x128.size a)
    (hsl : S256x1024.Slices ![0, o] S256x128)
    (x : S256x128.Idx) : extractStridedSlice S256x128 ![0, o] R hsl x
      = spread R ((⟨(⟨![s.val, 0], S256x128.size, ![8, 1], inb⟩ : LoadRect S2048x128), spos_8_1⟩ : Rect S2048x128).emb x) := by
  refine congrArg R (funext fun a => Fin.ext ?_)
  have h0 : (x 0).val < 256 := (x 0).isLt
  have h1 : (x 1).val < 128 := (x 1).isLt
  have hs := s.isLt
  match a with
  | ⟨0, _⟩ => show 0 + (x 0).val = (s.val + 8 * (x 0).val) / 8; omega
  | ⟨1, _⟩ => show o + (x 1).val = 128 * ((s.val + 8 * (x 0).val) % 8) + (0 + 1 * (x 1).val); omega

/-- Eight stores of every eighth row, each a column slice of one value, leave that value laid out in rows of 128. -/
theorem rows_written (v : View sig .tc .vmem S2048x128 .f32) (f : v.ty.Contents (Elt F)) (g u o : FVec F S256x1024 .f32)
    (w' : Vec F S1024x1024 .bf16) (b' : Vec F S1x1x1x1024 .f32) :
    v.read (Elt F) (v.writes (Elt F) f [⟨⟨(⟨![7, 0], S256x128.size, ![8, 1], inb_S2048x128_S256x128_7_0_s_8_1⟩ : LoadRect S2048x128), spos_8_1⟩, k0_pay16 g u o w' b'⟩,
        ⟨⟨(⟨![6, 0], S256x128.size, ![8, 1], inb_S2048x128_S256x128_6_0_s_8_1⟩ : LoadRect S2048x128), spos_8_1⟩, k0_pay15 g u o w' b'⟩,
        ⟨⟨(⟨![5, 0], S256x128.size, ![8, 1], inb_S2048x128_S256x128_5_0_s_8_1⟩ : LoadRect S2048x128), spos_8_1⟩, k0_pay14 g u o w' b'⟩,
        ⟨⟨(⟨![4, 0], S256x128.size, ![8, 1], inb_S2048x128_S256x128_4_0_s_8_1⟩ : LoadRect S2048x128), spos_8_1⟩, k0_pay13 g u o w' b'⟩,
        ⟨⟨(⟨![3, 0], S256x128.size, ![8, 1], inb_S2048x128_S256x128_3_0_s_8_1⟩ : LoadRect S2048x128), spos_8_1⟩, k0_pay12 g u o w' b'⟩,
        ⟨⟨(⟨![2, 0], S256x128.size, ![8, 1], inb_S2048x128_S256x128_2_0_s_8_1⟩ : LoadRect S2048x128), spos_8_1⟩, k0_pay11 g u o w' b'⟩,
        ⟨⟨(⟨![1, 0], S256x128.size, ![8, 1], inb_S2048x128_S256x128_1_0_s_8_1⟩ : LoadRect S2048x128), spos_8_1⟩, k0_pay10 g u o w' b'⟩,
        ⟨⟨(⟨![0, 0], S256x128.size, ![8, 1], inb_S2048x128_S256x128_0_0_s_8_1⟩ : LoadRect S2048x128), spos_8_1⟩, k0_pay9 g u o w' b'⟩])
      = spread (k0_pay8 g u o w' b') := by
  funext y
  refine View.read_writes_apply_of_pieces v f (spread (k0_pay8 g u o w' b')) _ ?_ y ?_
  · intro p hp
    simp only [List.mem_cons, List.not_mem_nil, or_false] at hp
    rcases hp with rfl | rfl | rfl | rfl | rfl | rfl | rfl | rfl
    · exact fun x => rows_piece (k0_pay8 g u o w' b') 7 896 rfl inb_S2048x128_S256x128_7_0_s_8_1 slices_S256x1024_o0_896_S256x128 x
    · exact fun x => rows_piece (k0_pay8 g u o w' b') 6 768 rfl inb_S2048x128_S256x128_6_0_s_8_1 slices_S256x1024_o0_768_S256x128 x
    · exact fun x => rows_piece (k0_pay8 g u o w' b') 5 640 rfl inb_S2048x128_S256x128_5_0_s_8_1 slices_S256x1024_o0_640_S256x128 x
    · exact fun x => rows_piece (k0_pay8 g u o w' b') 4 512 rfl inb_S2048x128_S256x128_4_0_s_8_1 slices_S256x1024_o0_512_S256x128 x
    · exact fun x => rows_piece (k0_pay8 g u o w' b') 3 384 rfl inb_S2048x128_S256x128_3_0_s_8_1 slices_S256x1024_o0_384_S256x128 x
    · exact fun x => rows_piece (k0_pay8 g u o w' b') 2 256 rfl inb_S2048x128_S256x128_2_0_s_8_1 slices_S256x1024_o0_256_S256x128 x
    · exact fun x => rows_piece (k0_pay8 g u o w' b') 1 128 rfl inb_S2048x128_S256x128_1_0_s_8_1 slices_S256x1024_o0_128_S256x128 x
    · exact fun x => rows_piece (k0_pay8 g u o w' b') 0 0 rfl inb_S2048x128_S256x128_0_0_s_8_1 slices_S256x1024_o0_0_S256x128 x
  · have h0 : (y 0).val < 2048 := (y 0).isLt
    have h1 : (y 1).val < 128 := (y 1).isLt
    have key : ∀ (s : ℕ) (inb : ∀ a, S256x128.size a = 0 ∨ (![s, 0] : Fin 2 → ℕ) a + (![8, 1] : Fin 2 → ℕ) a * (S256x128.size a - 1) < S2048x128.size a),
        (y 0).val % 8 = s → y ∈ (⟨(⟨![s, 0], S256x128.size, ![8, 1], inb⟩ : LoadRect S2048x128), spos_8_1⟩ : Rect S2048x128).set := by
      intro s inb hs
      refine (LoadRect.mem_set _).mpr fun a => ?_
      match a with
      | ⟨0, _⟩ => exact ⟨(y 0).val / 8, (show (y 0).val / 8 < 256 by omega), (show (y 0).val = s + 8 * ((y 0).val / 8) by omega)⟩
      | ⟨1, _⟩ => exact ⟨(y 1).val, h1, (show (y 1).val = 0 + 1 * (y 1).val by omega)⟩
    rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h | h | h | h | h | h | h | h
    · exact ⟨_, .tail _ (.tail _ (.tail _ (.tail _ (.tail _ (.tail _ (.tail _ (.head _))))))), key 0 _ h⟩
    · exact ⟨_, .tail _ (.tail _ (.tail _ (.tail _ (.tail _ (.tail _ (.head _)))))), key 1 _ h⟩
    · exact ⟨_, .tail _ (.tail _ (.tail _ (.tail _ (.tail _ (.head _))))), key 2 _ h⟩
    · exact ⟨_, .tail _ (.tail _ (.tail _ (.tail _ (.head _)))), key 3 _ h⟩
    · exact ⟨_, .tail _ (.tail _ (.tail _ (.head _))), key 4 _ h⟩
    · exact ⟨_, .tail _ (.tail _ (.head _)), key 5 _ h⟩
    · exact ⟨_, .tail _ (.head _), key 6 _ h⟩
    · exact ⟨_, .head _, key 7 _ h⟩

/-- What the body's reads make of a block once each is known. -/
theorem block_of_reads (x : Vec F S2048x128 .f32) {w v : Vec F S1024x2048 .bf16} {b d : Vec F S1x1x1x2048 .f32}
    {w' v' : Vec F S1024x1024 .bf16} {b' d' : Vec F S1x1x1x1024 .f32} {r0 r1 r2 r3 r4 r5 r6 r7 : Vec F S256x128 .f32}
    (h0 : r0 = rowsFrom x 0) (h1 : r1 = rowsFrom x 1) (h2 : r2 = rowsFrom x 2) (h3 : r3 = rowsFrom x 3) (h4 : r4 = rowsFrom x 4)
    (h5 : r5 = rowsFrom x 5) (h6 : r6 = rowsFrom x 6) (h7 : r7 = rowsFrom x 7) (hw : w = v) (hb : b = d) (hw' : w' = v') (hb' : b' = d') :
    (spread (k0_pay8 (k0_pay5 r0 r1 r2 r3 r4 r5 r6 r7 w b) (k0_pay6 r0 r1 r2 r3 r4 r5 r6 r7 w b) k0_pay7 w' b'))
      = blockOut x v d v' d' := by
  subst h0 h1 h2 h3 h4 h5 h6 h7 hw hb hw' hb'
  rfl

/-- What the body reads of the tables: how many blocks are used, this block's expert and the one before's. -/
def wordN (c : Dev nD) (xt : TbBuf (F := F) c tbM1) : BitVec 32 :=
  View.readAt (Elt F) tbM1.view (Rect.unit (s := S1) ![0] S1.size inb_S1_S1_0).toLoadRect xt (Shape.Idx.first (numel1_S1.symm ▸ Nat.one_pos))
def wordE (c : Dev nD) (i : grid0.Coords) (xt : TbBuf (F := F) c tbM0) : BitVec 32 :=
  View.readAt (Elt F) tbM0.view (Rect.unit (s := S288) (k0_off1 i) S1.size (k0_off1_inb i)).toLoadRect xt (Shape.Idx.first (numel1_S1.symm ▸ Nat.one_pos))
def wordP (c : Dev nD) (i : grid0.Coords) (xt : TbBuf (F := F) c tbM0) : BitVec 32 :=
  View.readAt (Elt F) tbM0.view (Rect.unit (s := S288) (k0_off2 i) S1.size (k0_off2_inb i)).toLoadRect xt (Shape.Idx.first (numel1_S1.symm ▸ Nat.one_pos))

/-- Whether the point loads its expert's weights. -/
abbrev condLoad (i : grid0.Coords) (n e e' : BitVec 32) : Prop :=
  Scalar.cmpi .ne (Scalar.extui (Scalar.andi (Scalar.cmpi .slt (BitVec.ofNat 32 (i 0).val) n) (Scalar.ori (Scalar.cmpi .eq (BitVec.ofNat 32 (i 0).val) 0#32) (Scalar.cmpi .ne e e')))) 0#32 = 1#1

set_option maxHeartbeats 1000000 in
theorem run_B (c : Dev nD) (i : grid0.Coords) (arg3 : Memref sig .tc .vmem S2048x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S2048x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S2048x128 .f32) (x1 : Vec F S1x1x1024x2048 .f32) (x2 : Vec F S1x1x1x2048 .f32) (x3 : Vec F S1x1x1024x1024 .f32) (x4 : Vec F S1x1x1x1024 .f32) (w1 : Vec F S1024x2048 .bf16) (w2 : Vec F S1024x1024 .bf16) (xt0 : TbBuf (F := F) c tbM0) (xt1 : TbBuf (F := F) c tbM1) (E : Set ℕ) (K : PUnit → sProp 𝕄)
    (w1' : Vec F S1024x2048 .bf16) (hw1 : w1' = if condLoad i (wordN c xt1) (wordE c i xt0) (wordP c i xt0) then k0_pay1 x1 else w1)
    (w2' : Vec F S1024x1024 .bf16) (hw2 : w2' = if condLoad i (wordN c xt1) (wordE c i xt0) (wordP c i xt0) then k0_pay2 x3 else w2)
    (y : Vec F S2048x128 .f32) (hy : y = if k0_cond2 i (wordN c xt1) = 1#1 then blockOut x0 w1' x2 w2' x4 else k0_pay3)
    (h23 : k0_cond3 i (wordN c xt1) = 1#1 ↔ ¬ k0_cond2 i (wordN c xt1) = 1#1) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare w1 ∗ owns (c : Thread nD τ) arg10 fullShare w2 ∗ tbPt c tbM0 xt0 ∗ tbPt c tbM1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y ∗ owns (c : Thread nD τ) arg9 fullShare w1' ∗ owns (c : Thread nD τ) arg10 fullShare w2' ∗ tbPt c tbM0 xt0 ∗ tbPt c tbM1 xt1) -∗ K ⟨⟩))
          ⊢ wp frame (wpE (defs₀ (F := F)) Variants.none c none) E (cc0_moe_experts i tbM0 htbM0 tbM1 htbM1 arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hs0; obtain rfl := harg10.eq_unread hs1
    sl_exec
    sl_unfold_run_names
    sl_step
    iapply Hk
    isplitl [H0]; · (iexists _; isplitr; · ipureintro; exact harg3.read_unread _); iexact H0
    isplitl [H1]; · (iexists _; isplitr; · ipureintro; exact harg4.read_unread _); iexact H1
    isplitl [H2]; · (iexists _; isplitr; · ipureintro; exact harg5.read_unread _); iexact H2
    isplitl [H3]; · (iexists _; isplitr; · ipureintro; exact harg6.read_unread _); iexact H3
    isplitl [H4]; · (iexists _; isplitr; · ipureintro; exact harg7.read_unread _); iexact H4
    isplitl [H5]
    · iexists _; isplitr; swap; · iexact H5
      ipureintro
      split
      · rename_i hc
        rw [hy, if_neg (h23.mp hc)]
        exact View.read_writes_full _ _ _ _ _
      · rename_i hc
        have hc2 : k0_cond2 i (wordN c xt1) = 1#1 := not_not.mp fun h => hc (h23.mpr h)
        rw [hy, if_pos hc2]
        refine (congrArg _ (dif_pos (show k0_cond2 i (wordN c xt1) = 1#1 from hc2))).trans ((rows_written _ _ _ _ _ _ _).trans (block_of_reads x0
          (rows_read arg3 harg3 x0 0 _) (rows_read arg3 harg3 x0 1 _) (rows_read arg3 harg3 x0 2 _) (rows_read arg3 harg3 x0 3 _)
          (rows_read arg3 harg3 x0 4 _) (rows_read arg3 harg3 x0 5 _) (rows_read arg3 harg3 x0 6 _) (rows_read arg3 harg3 x0 7 _)
          ((View.readAt_full _ _ _).trans ?_) ((View.readAt_full _ _ _).trans (harg5.read_unread _))
          ((View.readAt_full _ _ _).trans ?_) ((View.readAt_full _ _ _).trans (harg7.read_unread _))))
        · rw [hw1]
          split
          · rename_i hd
            refine Eq.trans ?_ (if_pos (show condLoad i (wordN c xt1) (wordE c i xt0) (wordP c i xt0) from hd)).symm
            exact (View.read_writes_full _ _ _ _ _).trans (congrArg k0_pay1 ((View.readAt_full _ _ _).trans (harg4.read_unread _)))
          · rename_i hd
            refine Eq.trans ?_ (if_neg (show ¬ condLoad i (wordN c xt1) (wordE c i xt0) (wordP c i xt0) from hd)).symm
            exact harg9.read_unread _
        · rw [hw2]
          split
          · rename_i hd
            refine Eq.trans ?_ (if_pos (show condLoad i (wordN c xt1) (wordE c i xt0) (wordP c i xt0) from hd)).symm
            exact (View.read_writes_full _ _ _ _ _).trans (congrArg k0_pay2 ((View.readAt_full _ _ _).trans (harg6.read_unread _)))
          · rename_i hd
            refine Eq.trans ?_ (if_neg (show ¬ condLoad i (wordN c xt1) (wordE c i xt0) (wordP c i xt0) from hd)).symm
            exact harg10.read_unread _
    isplitl [HS0]
    · iexists _; isplitr; swap; · iexact HS0
      ipureintro
      rw [hw1]
      split
      · rename_i hc
        refine Eq.trans ?_ (if_pos (show condLoad i (wordN c xt1) (wordE c i xt0) (wordP c i xt0) from hc)).symm
        exact (View.read_writes_full _ _ _ _ _).trans (congrArg k0_pay1 ((View.readAt_full _ _ _).trans (harg4.read_unread _)))
      · rename_i hc
        refine Eq.trans ?_ (if_neg (show ¬ condLoad i (wordN c xt1) (wordE c i xt0) (wordP c i xt0) from hc)).symm
        exact harg9.read_unread _
    isplitl [HS1]
    · iexists _; isplitr; swap; · iexact HS1
      ipureintro
      rw [hw2]
      split
      · rename_i hc
        refine Eq.trans ?_ (if_pos (show condLoad i (wordN c xt1) (wordE c i xt0) (wordP c i xt0) from hc)).symm
        exact (View.read_writes_full _ _ _ _ _).trans (congrArg k0_pay2 ((View.readAt_full _ _ _).trans (harg6.read_unread _)))
      · rename_i hc
        refine Eq.trans ?_ (if_neg (show ¬ condLoad i (wordN c xt1) (wordE c i xt0) (wordP c i xt0) from hc)).symm
        exact harg10.read_unread _
    isplitl [HT0]; · iexact HT0
    iexact HT1

end Cert.Proof.Experts

end
-- ==== Proof.ExpertsKit.lean ====
/-  The experts call's launch: what the host hands it, its tables, its blocks, its staging buffers. -/
module

public import proofs.«01_k».proof.Proof.ExpertsBody

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A device's buffers when the call is entered. -/
abbrev V (c : Dev nD) (b : Ref sig .tc) : Buf (Elt F) ((c : Thread nD τ).loc b) :=
  StableHlo.after (List.flatten [hostOps0, hostOps0_1, hostOps0_2]) (fun b => m (c, b)) b

/-! No line of host code draws a fresh semaphore. -/

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
/-- The program is its host code and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

/-! The host code writes no argument. -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The tables when the call is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables name is inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables that the call is handed. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! An input's buffer holds its block at every point. -/

theorem before_of0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! The staging buffers of a point. -/

abbrev ms0 (hO : Ok m) (t : Fin (cfgM m hO).N) : Memref sig .tc .vmem S2048x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S2048x128 .f32 := spec0_5.stage ((cfgM m hO).slots t 5)
abbrev hs5 (hO : Ok m) (t : Fin (cfgM m hO).N) : (ms5 m hO t).IsWhole := hstage0_5 (((cfgM m hO).slots t 5).cast nbuf0_5)

/-- The two weight buffers. -/
abbrev scM0 : Memref sig .tc .vmem S1024x2048 .bf16 := Memref.whole cc0_scratch0
abbrev scM1 : Memref sig .tc .vmem S1024x1024 .bf16 := Memref.whole cc0_scratch1

/-- What the call holds of its own besides the staging buffers. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The body as the call runs it at a point. -/
abbrev bodyAt (hO : Ok m) (t : Fin (cfgM m hO).N) : Prog (TpuEff nD τ sig (Elt F) Λ₀ .tc) PUnit :=
  cc0_moe_experts (grid0.coords t) tbM0 htbM0 tbM1 htbM1 (ms0 m hO t) (hs0 m hO t) (ms1 m hO t) (hs1 m hO t) (ms2 m hO t) (hs2 m hO t)
    (ms3 m hO t) (hs3 m hO t) (ms4 m hO t) (hs4 m hO t) (ms5 m hO t) (hs5 m hO t) scM0 (Memref.isWhole_whole _) scM1 (Memref.isWhole_whole _)

theorem bodyAt_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.Proof.Experts

end
-- ==== Proof.ExpertsWords.lean ====
/-  The experts call's conditions and table words as integers. -/
module

public import proofs.«01_k».proof.Proof.ExpertsKit

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A truth value widened and tested against zero is the truth value. -/
theorem flag_iff (b : Bool) : Scalar.cmpi .ne (Scalar.extui (BitVec.ofBool b) : BitVec 32) 0#32 = 1#1 ↔ b = true := by
  cases b <;> decide

/-- A point's number as a word. -/
theorem point_toInt (i : grid0.Coords) : (BitVec.ofNat 32 (i 0).val).toInt = ((i 0).val : ℤ) := by
  have h : (i 0).val < 288 := (i 0).isLt
  exact WordCmp.toInt_ofNat_of_lt (by omega)

/-- The point is used: it stands before the number of used blocks. -/
theorem live_iff (i : grid0.Coords) (n : BitVec 32) : k0_cond2 i n = 1#1 ↔ ((i 0).val : ℤ) < n.toInt := by
  refine (flag_iff ((BitVec.ofNat 32 (i 0).val).slt n)).trans ?_
  rw [BitVec.slt_iff_toInt_lt, point_toInt]

/-- The other branch is the complement. -/
theorem dead_iff (i : grid0.Coords) (n : BitVec 32) : k0_cond3 i n = 1#1 ↔ ¬ k0_cond2 i n = 1#1 := by
  rw [live_iff, not_lt]
  refine (flag_iff (n.sle (BitVec.ofNat 32 (i 0).val))).trans ?_
  rw [BitVec.sle_iff_toInt_le, point_toInt]

/-- When the point loads its expert's weights. -/
theorem load_iff (i : grid0.Coords) (n e e' : BitVec 32) : condLoad i n e e' ↔ k0_cond2 i n = 1#1 ∧ ((i 0).val = 0 ∨ e ≠ e') := by
  have h : (i 0).val < 288 := (i 0).isLt
  have hz : ((BitVec.ofNat 32 (i 0).val == 0#32) = true) ↔ (i 0).val = 0 := by
    rw [beq_iff_eq]
    constructor
    · intro e; have := congrArg BitVec.toNat e; simp at this; omega
    · intro e; rw [e]
  have hl : k0_cond2 i n = 1#1 ↔ (BitVec.ofNat 32 (i 0).val).slt n = true := flag_iff _
  unfold condLoad
  rw [hl, show (e ≠ e') ↔ (e != e') = true from bne_iff_ne.symm, ← hz]
  show Scalar.cmpi .ne (Scalar.extui (IntOp.andi (BitVec.ofBool _) (IntOp.ori (BitVec.ofBool _) (BitVec.ofBool _))) : BitVec 32) 0#32 = 1#1 ↔ _
  rw [WordCmp.ori_ofBool, WordCmp.andi_ofBool, flag_iff, Bool.and_eq_true, Bool.or_eq_true]

/-- The place of a point in the table of experts. -/
abbrev cell (k : Fin 288) : S288.Idx := ix1 k

theorem off2_eq (i : grid0.Coords) : k0_off2 i = ![(i 0).val - 1] := by
  revert i
  decide +kernel

/-- The one element of a rectangle of one element. -/
theorem unit_cell (off : Fin 1 → ℕ) (inb : ∀ a, off a + S1.size a ≤ S288.size a) (h1 : 0 < S1.numel) (k : Fin 288) (h : off 0 = k.val) :
    (Rect.unit (s := S288) off S1.size inb).emb (Shape.Idx.first h1) = cell k := by
  funext a
  apply Fin.ext
  have ha : a = 0 := Subsingleton.elim _ _
  subst ha
  have hz : ((Shape.Idx.first h1 : S1.Idx) 0).val = 0 := by
    have : ((Shape.Idx.first h1 : S1.Idx) 0).val < 1 := ((Shape.Idx.first h1 : S1.Idx) 0).isLt
    omega
  refine Eq.trans (b := off 0 + 1 * ((Shape.Idx.first h1 : S1.Idx) 0).val) rfl ?_
  rw [hz, h]; exact (Nat.add_zero _)

/-- The word of a point's expert, as the body reads it. -/
theorem wordE_eq (c : Dev nD) (i : grid0.Coords) (xt : TbBuf (F := F) c tbM0) : wordE c i xt = (xt (cell (i 0)) : BitVec 32) := by
  unfold wordE
  exact congrArg xt (unit_cell _ (k0_off1_inb i) _ (i 0) (by rw [k0_off1_eq]; rfl))

/-- The word of the point before's expert, as the body reads it. -/
theorem wordP_eq (c : Dev nD) (i : grid0.Coords) (xt : TbBuf (F := F) c tbM0) (k : Fin 288) (hk : k.val = (i 0).val - 1) : wordP c i xt = (xt (cell k) : BitVec 32) := by
  unfold wordP
  exact congrArg xt (unit_cell _ (k0_off2_inb i) _ k (by rw [off2_eq]; exact hk.symm))

/-- The word of a point's expert, as the windows read it. -/
theorem at_eq (pf : pre0.Contents (Elt F)) (i : grid0.Coords) :
    pf.at 0 (Rect.unit (s := S288) (k0_off1 i) S1.size (k0_off1_inb i)) numel1_S1 = (pf 0 (cell (i 0)) : BitVec 32) :=
  congrArg (pf 0) (unit_cell _ (k0_off1_inb i) _ (i 0) (by rw [k0_off1_eq]; rfl))

/-- The one cell of the table of counts. -/
abbrev cell1 : S1.Idx := ix1 0

/-- There is one place in it. -/
theorem one_cell (x : S1.Idx) : x = cell1 := by
  funext a
  have ha : a = 0 := Subsingleton.elim _ _
  subst ha
  apply Fin.ext
  have h : (x 0).val < 1 := (x 0).isLt
  show (x 0).val = 0
  omega

theorem wordN_eq (c : Dev nD) (xt : TbBuf (F := F) c tbM1) : wordN c xt = (xt cell1 : BitVec 32) := by
  unfold wordN
  exact congrArg xt (one_cell _)

theorem at1_eq (pf : pre0.Contents (Elt F)) (inb) :
    pf.at 1 (Rect.unit (s := S1) ![0] S1.size inb) numel1_S1 = (pf 1 cell1 : BitVec 32) :=
  congrArg (pf 1) (one_cell _)

theorem atD1_eq (pf : pre0.Contents (Elt F)) : (pf.atD 1 ![0] : BitVec 32) = (pf 1 cell1 : BitVec 32) := by
  have h : ∀ a, (![0] : Fin 1 → Nat) a + 1 ≤ (pre0.ref 1).ty.shape.size a := by
    intro a
    have ha : a = 0 := Subsingleton.elim _ _
    subst ha
    exact Nat.le_refl 1
  refine (dif_pos h).trans ?_
  exact congrArg (pf 1) (one_cell _)

/-- The output window's buffer is stored into at every point. -/
theorem idle_out (pf : pre0.Contents (Elt F)) (i : grid0.Coords) : idle0 pf 5 i = false := by
  show (!(k0_cond2 i (pf.atD 1 ![0]) == 1#1) && !(k0_cond3 i (pf.atD 1 ![0]) == 1#1)) = false
  have h := dead_iff i (pf.atD 1 ![0])
  by_cases hc : k0_cond2 i (pf.atD 1 ![0]) = 1#1
  · rw [hc]; rfl
  · rw [h.mpr hc]; simp

/-! The blocks the windows name, on the tables. -/

theorem block0 (pf : pre0.Contents (Elt F)) (i : grid0.Coords) :
    cc0_transform_0 inb_S1_S1_0 numel1_S1 pf i = ![(Scalar.minsi (BitVec.ofNat 32 (i 0).val) (Scalar.subi (pf 1 cell1 : BitVec 32) 1#32)).toNat, 0] := by
  show ![(Scalar.minsi (BitVec.ofNat 32 (i 0).val) (Scalar.subi (pf.at 1 (Rect.unit (s := S1) ![0] S1.size inb_S1_S1_0) numel1_S1) 1#32)).toNat, 0] = _
  rw [at1_eq]
theorem block1 (pf : pre0.Contents (Elt F)) (i : grid0.Coords) :
    cc0_transform_1 k0_off1_inb numel1_S1 pf i = ![0, (pf 0 (cell (i 0)) : BitVec 32).toNat, 0, 0] := by
  show ![0, (pf.at 0 (Rect.unit (s := S288) (k0_off1 i) S1.size (k0_off1_inb i)) numel1_S1).toNat, 0, 0] = _
  rw [at_eq]
theorem block2 (pf : pre0.Contents (Elt F)) (i : grid0.Coords) :
    cc0_transform_2 k0_off1_inb numel1_S1 pf i = ![0, (pf 0 (cell (i 0)) : BitVec 32).toNat, 0, 0] := by
  show ![0, (pf.at 0 (Rect.unit (s := S288) (k0_off1 i) S1.size (k0_off1_inb i)) numel1_S1).toNat, 0, 0] = _
  rw [at_eq]
theorem block3 (pf : pre0.Contents (Elt F)) (i : grid0.Coords) :
    cc0_transform_3 k0_off1_inb numel1_S1 pf i = ![0, (pf 0 (cell (i 0)) : BitVec 32).toNat, 0, 0] := by
  show ![0, (pf.at 0 (Rect.unit (s := S288) (k0_off1 i) S1.size (k0_off1_inb i)) numel1_S1).toNat, 0, 0] = _
  rw [at_eq]
theorem block4 (pf : pre0.Contents (Elt F)) (i : grid0.Coords) :
    cc0_transform_4 k0_off1_inb numel1_S1 pf i = ![0, (pf 0 (cell (i 0)) : BitVec 32).toNat, 0, 0] := by
  show ![0, (pf.at 0 (Rect.unit (s := S288) (k0_off1 i) S1.size (k0_off1_inb i)) numel1_S1).toNat, 0, 0] = _
  rw [at_eq]

/-- A point's coordinate is its number. -/
theorem coords_val (t : Fin grid0.N) : (grid0.coords t 0).val = t.val := by
  have e0 : (grid0.coords t 0).val = t.val / 1 % 288 := Pipeline.Grid.coords_val t 0 (by decide) rfl
  have ht : t.val < 288 := lt_of_lt_of_eq t.isLt N_0
  rw [e0]; omega

end Cert.Proof.Experts

end
-- ==== Proof.ExpertsBlocks.lean ====
/-  What a window's block holds, element by element, on any tables. -/
module

public import proofs.«01_k».proof.Proof.ExpertsWords

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI

variable {F : FTy → Type} [FloatOps F]

/-- A point's expert. -/
def nth (pf : pre0.Contents (Elt F)) (t : Fin grid0.N) : ℕ := (pf 0 (cell (grid0.coords t 0)) : BitVec 32).toNat

theorem nth_lt (pf : pre0.Contents (Elt F)) (h : ok0 pf) (t : Fin grid0.N) : nth pf t < 32 := by
  obtain ⟨h1, -⟩ := h.2.1 (grid0.coords t)
  have h2 : (cc0_transform_1 k0_off1_inb numel1_S1 pf (grid0.coords t) 1 + 1) * 1 ≤ 32 := h1 1
  rw [block1] at h2
  have h3 : (nth pf t + 1) * 1 ≤ 32 := h2
  omega

/-- A used point's block of rows is its own. -/
theorem own_block (t : Fin grid0.N) (n : BitVec 32) (hl : k0_cond2 (grid0.coords t) n = 1#1) :
    (Scalar.minsi (BitVec.ofNat 32 (grid0.coords t 0).val) (Scalar.subi n 1#32)).toNat = t.val := by
  have hv := coords_val t
  have ht : t.val < 288 := lt_of_lt_of_eq t.isLt N_0
  rw [live_iff, hv] at hl
  rw [hv]
  have hn : n.toInt = (n.toNat : ℤ) := by
    rw [BitVec.toInt_eq_toNat_cond] at hl ⊢
    split at hl <;> split <;> omega
  have hn2 : n.toNat < 2 ^ 31 := by
    have := BitVec.toInt_lt (x := n)
    rw [hn] at this; exact_mod_cast this
  have hs : (n - 1#32).toNat = n.toNat - 1 := by
    rw [BitVec.toNat_sub]; rw [show (1#32).toNat = 1 from rfl]; omega
  show (if (BitVec.ofNat 32 t.val).slt (n - 1#32) then BitVec.ofNat 32 t.val else n - 1#32).toNat = t.val
  have h1 : (BitVec.ofNat 32 t.val).toNat = t.val := WordCmp.toNat_ofNat_of_lt (by omega)
  split
  · exact h1
  · rename_i h
    rw [BitVec.slt_iff_toInt_lt, WordCmp.toInt_eq_toNat_of_lt_half (by rw [h1]; omega), WordCmp.toInt_eq_toNat_of_lt_half (by rw [hs]; omega), h1, hs] at h
    rw [hs]; omega

/-- The output's block of rows is the point's own. -/
theorem block5 (t : Fin grid0.N) : cc0_transform_5 (grid0.coords t) = ![t.val, 0] := by
  have ht : t.val < 288 := lt_of_lt_of_eq t.isLt N_0
  show ![(BitVec.ofNat 32 (grid0.coords t 0).val).toNat, 0] = _
  rw [coords_val, WordCmp.toNat_ofNat_of_lt (by omega)]

/-- The places of a block of weights. -/
theorem places_S1x1x1024x2048 (y : S1x1x1024x2048.Idx) : ∃ (r : Fin 1024) (k : Fin 2048), y = ix4 0 0 r k := ⟨y 2, y 3, funext fun d => match d with
  | ⟨0, _⟩ => Fin.ext (by have h0 : (y 0).val < 1 := (y 0).isLt; show (y 0).val = 0; omega)
  | ⟨1, _⟩ => Fin.ext (by have h0 : (y 1).val < 1 := (y 1).isLt; show (y 1).val = 0; omega)
  | ⟨2, _⟩ => rfl
  | ⟨3, _⟩ => rfl⟩

/-- The places of a block of weights. -/
theorem places_S1x1x1024x1024 (y : S1x1x1024x1024.Idx) : ∃ (r : Fin 1024) (k : Fin 1024), y = ix4 0 0 r k := ⟨y 2, y 3, funext fun d => match d with
  | ⟨0, _⟩ => Fin.ext (by have h0 : (y 0).val < 1 := (y 0).isLt; show (y 0).val = 0; omega)
  | ⟨1, _⟩ => Fin.ext (by have h0 : (y 1).val < 1 := (y 1).isLt; show (y 1).val = 0; omega)
  | ⟨2, _⟩ => rfl
  | ⟨3, _⟩ => rfl⟩

section
variable (a : (pcfg0 (F := F)).Adm) (t : Fin grid0.N)

theorem read1 (X : Vec F S2x32x1024x2048 .f32) (r : Fin 1024) (k : Fin 2048) :
    (((cfg0 a).win 1).blk t).view.read (Elt F) X (ix4 0 0 r k : S1x1x1024x2048.Idx) = X (ix4 0 ⟨nth a.1 t, nth_lt a.1 a.2 t⟩ r k) := by
  have e := block1 a.1 (grid0.coords t)
  refine congrArg X (funext fun d => Fin.ext ?_)
  refine Eq.trans (b := cc0_transform_1 k0_off1_inb numel1_S1 a.1 (grid0.coords t) d * S1x1x1024x2048.size d + 1 * ((ix4 0 0 r k : S1x1x1024x2048.Idx) d).val) rfl ?_
  rw [e]
  match d with
  | ⟨0, _⟩ => show 0 * 1 + 1 * 0 = 0; omega
  | ⟨1, _⟩ => show nth a.1 t * 1 + 1 * 0 = nth a.1 t; omega
  | ⟨2, _⟩ => show 0 * 1024 + 1 * r.val = r.val; omega
  | ⟨3, _⟩ => show 0 * 2048 + 1 * k.val = k.val; omega

theorem read2 (X : Vec F S2x32x1x2048 .f32) (k : Fin 2048) :
    (((cfg0 a).win 2).blk t).view.read (Elt F) X (ix4 0 0 0 k : S1x1x1x2048.Idx) = X (ix4 0 ⟨nth a.1 t, nth_lt a.1 a.2 t⟩ 0 k) := by
  have e := block2 a.1 (grid0.coords t)
  refine congrArg X (funext fun d => Fin.ext ?_)
  refine Eq.trans (b := cc0_transform_2 k0_off1_inb numel1_S1 a.1 (grid0.coords t) d * S1x1x1x2048.size d + 1 * ((ix4 0 0 0 k : S1x1x1x2048.Idx) d).val) rfl ?_
  rw [e]
  match d with
  | ⟨0, _⟩ => show 0 * 1 + 1 * 0 = 0; omega
  | ⟨1, _⟩ => show nth a.1 t * 1 + 1 * 0 = nth a.1 t; omega
  | ⟨2, _⟩ => show 0 * 1 + 1 * 0 = 0; omega
  | ⟨3, _⟩ => show 0 * 2048 + 1 * k.val = k.val; omega
theorem read3 (X : Vec F S2x32x1024x1024 .f32) (r : Fin 1024) (k : Fin 1024) :
    (((cfg0 a).win 3).blk t).view.read (Elt F) X (ix4 0 0 r k : S1x1x1024x1024.Idx) = X (ix4 0 ⟨nth a.1 t, nth_lt a.1 a.2 t⟩ r k) := by
  have e := block3 a.1 (grid0.coords t)
  refine congrArg X (funext fun d => Fin.ext ?_)
  refine Eq.trans (b := cc0_transform_3 k0_off1_inb numel1_S1 a.1 (grid0.coords t) d * S1x1x1024x1024.size d + 1 * ((ix4 0 0 r k : S1x1x1024x1024.Idx) d).val) rfl ?_
  rw [e]
  match d with
  | ⟨0, _⟩ => show 0 * 1 + 1 * 0 = 0; omega
  | ⟨1, _⟩ => show nth a.1 t * 1 + 1 * 0 = nth a.1 t; omega
  | ⟨2, _⟩ => show 0 * 1024 + 1 * r.val = r.val; omega
  | ⟨3, _⟩ => show 0 * 1024 + 1 * k.val = k.val; omega

theorem read4 (X : Vec F S2x32x1x1024 .f32) (k : Fin 1024) :
    (((cfg0 a).win 4).blk t).view.read (Elt F) X (ix4 0 0 0 k : S1x1x1x1024.Idx) = X (ix4 0 ⟨nth a.1 t, nth_lt a.1 a.2 t⟩ 0 k) := by
  have e := block4 a.1 (grid0.coords t)
  refine congrArg X (funext fun d => Fin.ext ?_)
  refine Eq.trans (b := cc0_transform_4 k0_off1_inb numel1_S1 a.1 (grid0.coords t) d * S1x1x1x1024.size d + 1 * ((ix4 0 0 0 k : S1x1x1x1024.Idx) d).val) rfl ?_
  rw [e]
  match d with
  | ⟨0, _⟩ => show 0 * 1 + 1 * 0 = 0; omega
  | ⟨1, _⟩ => show nth a.1 t * 1 + 1 * 0 = nth a.1 t; omega
  | ⟨2, _⟩ => show 0 * 1 + 1 * 0 = 0; omega
  | ⟨3, _⟩ => show 0 * 1024 + 1 * k.val = k.val; omega

/-- The rows of a used point are the point's own. -/
theorem read0 (X : Vec F S589824x128 .f32) (hl : k0_cond2 (grid0.coords t) (a.1 1 cell1 : BitVec 32) = 1#1) (r : Fin 2048) (k : Fin 128) :
    (((cfg0 a).win 0).blk t).view.read (Elt F) X (ix2 r k : S2048x128.Idx)
      = X (ix2 ⟨2048 * t.val + r.val, by have := lt_of_lt_of_eq t.isLt N_0; omega⟩ k) := by
  have e := (block0 a.1 (grid0.coords t)).trans (congrArg (fun n : ℕ => (![n, 0] : Fin 2 → ℕ)) (own_block t (a.1 1 cell1 : BitVec 32) hl))
  refine congrArg X (funext fun d => Fin.ext ?_)
  refine Eq.trans (b := cc0_transform_0 inb_S1_S1_0 numel1_S1 a.1 (grid0.coords t) d * S2048x128.size d + 1 * ((ix2 r k : S2048x128.Idx) d).val) rfl ?_
  rw [e]
  match d with
  | ⟨0, _⟩ => show t.val * 2048 + 1 * r.val = 2048 * t.val + r.val; omega
  | ⟨1, _⟩ => show 0 * 128 + 1 * k.val = k.val; omega

/-- The block of rows the output window writes is the point's own. -/
theorem read5 (X : Vec F S589824x128 .f32) (r : Fin 2048) (k : Fin 128) :
    (((cfg0 a).win 5).blk t).view.read (Elt F) X (ix2 r k : S2048x128.Idx)
      = X (ix2 ⟨2048 * t.val + r.val, by have := lt_of_lt_of_eq t.isLt N_0; omega⟩ k) := by
  have e : cc0_transform_5 (grid0.coords t) = ![t.val, 0] := block5 t
  refine congrArg X (funext fun d => Fin.ext ?_)
  refine Eq.trans (b := cc0_transform_5 (grid0.coords t) d * S2048x128.size d + 1 * ((ix2 r k : S2048x128.Idx) d).val) rfl ?_
  rw [e]
  match d with
  | ⟨0, _⟩ => show t.val * 2048 + 1 * r.val = 2048 * t.val + r.val; omega
  | ⟨1, _⟩ => show 0 * 128 + 1 * k.val = k.val; omega

/-- Two points of one expert read the same block of weights. -/
theorem same1 (s t : Fin grid0.N) (X : Vec F S2x32x1024x2048 .f32) (h : nth a.1 s = nth a.1 t) :
    (((cfg0 a).win 1).blk s).view.read (Elt F) X = (((cfg0 a).win 1).blk t).view.read (Elt F) X := by
  funext y
  obtain ⟨r, k, rfl⟩ := places_S1x1x1024x2048 y
  exact (read1 a s X r k).trans ((congrArg (fun n : Fin 32 => X (ix4 0 n r k)) (Fin.ext h)).trans (read1 a t X r k).symm)

/-- Two points of one expert read the same block of weights. -/
theorem same3 (s t : Fin grid0.N) (X : Vec F S2x32x1024x1024 .f32) (h : nth a.1 s = nth a.1 t) :
    (((cfg0 a).win 3).blk s).view.read (Elt F) X = (((cfg0 a).win 3).blk t).view.read (Elt F) X := by
  funext y
  obtain ⟨r, k, rfl⟩ := places_S1x1x1024x1024 y
  exact (read3 a s X r k).trans ((congrArg (fun n : Fin 32 => X (ix4 0 n r k)) (Fin.ext h)).trans (read3 a t X r k).symm)
end

end Cert.Proof.Experts

end
-- ==== Proof.ExpertsRun.lean ====
/-  The experts call's run: what its weight buffers hold from point to point, and what it leaves. -/
module

public import proofs.«01_k».proof.Proof.ExpertsBlocks
public import Idealize.ShloMosaic.Lib.Claim

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of used blocks, as a word. -/
def used : BitVec 32 := tbl m 1 cell1

/-- A block's expert, as a word. -/
def expert (k : Fin 288) : BitVec 32 := tbl m 0 (cell k)

/-- The point's block is used. -/
def Live (t : Fin grid0.N) : Prop := k0_cond2 (grid0.coords t) (used m) = 1#1

theorem live_val (t : Fin grid0.N) : Live m t ↔ (t.val : ℤ) < (used m).toInt := by
  unfold Live
  rw [live_iff, coords_val]

open Classical in
/-- What the body leaves in the output's buffer at a point. -/
def leaves (hO : Ok m) (c : Dev nD) (t : Fin (cfgM m hO).N) : Vec F S2048x128 .f32 :=
  if Live m t then blockOut (iblk m hO c 0 t) (k0_pay1 (iblk m hO c 1 t)) (iblk m hO c 2 t) (k0_pay2 (iblk m hO c 3 t)) (iblk m hO c 4 t) else k0_pay3

/-- What is known of the weight buffers before point `n`: if the point before was used, they hold its expert's weights. -/
def Held (hO : Ok m) (c : Dev nD) (n : ℕ) (w1 : Vec F S1024x2048 .bf16) (w2 : Vec F S1024x1024 .bf16) : Prop :=
  ∀ s : Fin (cfgM m hO).N, s.val + 1 = n → Live m s → w1 = k0_pay1 (iblk m hO c 1 s) ∧ w2 = k0_pay2 (iblk m hO c 3 s)

/-- A used-or-not point's expert, as a number, is its word's. -/
theorem nth_eq (s t : Fin grid0.N) (h : expert m (grid0.coords s 0) = expert m (grid0.coords t 0)) : nth (tbl m) s = nth (tbl m) t :=
  congrArg BitVec.toNat h

/-- Two points of one expert read the same input weights, -/
theorem same_w1 (hO : Ok m) (c : Dev nD) (s t : Fin (cfgM m hO).N) (h : nth (tbl m) s = nth (tbl m) t) :
    iblk m hO c 1 s = iblk m hO c 1 t :=
  same1 (adm m hO) s t (V m c main_arg2) h

/-- and the same output weights. -/
theorem same_w2 (hO : Ok m) (c : Dev nD) (s t : Fin (cfgM m hO).N) (h : nth (tbl m) s = nth (tbl m) t) :
    iblk m hO c 3 s = iblk m hO c 3 t :=
  same3 (adm m hO) s t (V m c main_arg4) h

/-- Whether the point loads weights, on the tables. -/
abbrev Loads (c : Dev nD) (t : Fin grid0.N) : Prop :=
  condLoad (grid0.coords t) (wordN c (tbl m 1 : TbBuf (F := F) c tbM1)) (wordE c (grid0.coords t) (tbl m 0 : TbBuf (F := F) c tbM0)) (wordP c (grid0.coords t) (tbl m 0 : TbBuf (F := F) c tbM0))

/-- At a used point the weight buffers hold the point's expert's weights, loaded there or kept. -/
theorem held_now (hO : Ok m) (c : Dev nD) (t : Fin (cfgM m hO).N) (w1 : Vec F S1024x2048 .bf16) (w2 : Vec F S1024x1024 .bf16)
    (h : Held m hO c t.val w1 w2) (hl : Live m t) :
    (if Loads m c t then k0_pay1 (iblk m hO c 1 t) else w1) = k0_pay1 (iblk m hO c 1 t)
    ∧ (if Loads m c t then k0_pay2 (iblk m hO c 3 t) else w2) = k0_pay2 (iblk m hO c 3 t) := by
  by_cases hc : Loads m c t
  · exact ⟨if_pos hc, if_pos hc⟩
  · rw [if_neg hc, if_neg hc]
    have hv := coords_val t
    have ht : t.val < 288 := lt_of_lt_of_eq t.isLt N_0
    have hn : ¬ ((grid0.coords t 0).val = 0 ∨ _ ≠ _) := fun h' => hc ((load_iff _ _ _ _).mpr ⟨(congrArg (k0_cond2 _) (wordN_eq c (tbl m 1))).trans hl, h'⟩)
    rw [not_or, not_not, hv] at hn
    have hs : t.val - 1 < grid0.N := by rw [N_0]; omega
    have hsv := coords_val ⟨t.val - 1, hs⟩
    have hls : Live m ⟨t.val - 1, hs⟩ := by
      rw [live_val] at hl ⊢
      have : ((t.val - 1 : ℕ) : ℤ) ≤ (t.val : ℤ) := by omega
      exact lt_of_le_of_lt this hl
    have he : expert m (grid0.coords (⟨t.val - 1, hs⟩ : Fin grid0.N) 0) = expert m (grid0.coords t 0) := by
      exact ((wordP_eq c (grid0.coords t) (tbl m 0) (grid0.coords (⟨t.val - 1, hs⟩ : Fin grid0.N) 0) (by rw [hsv, hv])).symm.trans
        hn.2.symm).trans (wordE_eq c (grid0.coords t) (tbl m 0))
    obtain ⟨h1, h2⟩ := h ⟨t.val - 1, hs⟩ (by show t.val - 1 + 1 = t.val; omega) hls
    exact ⟨h1.trans (congrArg k0_pay1 (same_w1 m hO c _ _ (nth_eq m _ _ he))), h2.trans (congrArg k0_pay2 (same_w2 m hO c _ _ (nth_eq m _ _ he)))⟩

/-- What the body leaves, over what it has in its weight buffers. -/
theorem leaves_eq (hO : Ok m) (c : Dev nD) (t : Fin (cfgM m hO).N) (w1 : Vec F S1024x2048 .bf16) (w2 : Vec F S1024x1024 .bf16)
    (h : Live m t → (if Loads m c t then k0_pay1 (iblk m hO c 1 t) else w1) = k0_pay1 (iblk m hO c 1 t)
      ∧ (if Loads m c t then k0_pay2 (iblk m hO c 3 t) else w2) = k0_pay2 (iblk m hO c 3 t)) :
    leaves m hO c t = if k0_cond2 (grid0.coords t) (wordN c (tbl m 1 : TbBuf (F := F) c tbM1)) = 1#1
      then blockOut (iblk m hO c 0 t) (if Loads m c t then k0_pay1 (iblk m hO c 1 t) else w1) (iblk m hO c 2 t)
        (if Loads m c t then k0_pay2 (iblk m hO c 3 t) else w2) (iblk m hO c 4 t)
      else k0_pay3 := by
  have e : k0_cond2 (grid0.coords t) (wordN c (tbl m 1 : TbBuf (F := F) c tbM1)) = k0_cond2 (grid0.coords t) (used m) :=
    congrArg (k0_cond2 _) (wordN_eq c (tbl m 1))
  by_cases hl : Live m t
  · obtain ⟨e1, e2⟩ := h hl
    refine (if_pos hl).trans (Eq.trans ?_ (if_pos (e.trans hl)).symm)
    exact congrArg₂ (fun a b => blockOut (iblk m hO c 0 t) a (iblk m hO c 2 t) b (iblk m hO c 4 t)) e1.symm e2.symm
  · exact (if_neg hl).trans (if_neg fun h' => hl (e.symm.trans h')).symm

/-- What is held besides the windows before point `n`. -/
def inv (hO : Ok m) (c : Dev nD) (n : ℕ) : sProp 𝕄 :=
  iprop((∃ w1, ∃ w2, ⌜Held m hO c n w1 w2⌝ ∗ owns (c : Thread nD τ) scM0 fullShare w1 ∗ owns (c : Thread nD τ) scM1 fullShare w2)
    ∗ (∃ r, prngReg c r) ∗ Pipeline.ΦT pre0 (tbl m) c)

/-- The call's account: its arrays, what its buffers hold after each point, what it holds besides. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => leaves m hO c t
  Φ n := inv m hO c n.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = leaves m hO c t := by dsimp only [dats]; try rfl

theorem before_0 (hO : Ok m) (c : Dev nD) (t : Fin (cfgM m hO).N) (d) : (dats m hO 0 c).before 0 t d = iblk m hO c 0 t :=
  before_of0 m hO (dats m hO 0 c) (A_eq m hO c 0) (after_0 m hO c) t d
theorem before_1 (hO : Ok m) (c : Dev nD) (t : Fin (cfgM m hO).N) (d) : (dats m hO 0 c).before 1 t d = iblk m hO c 1 t :=
  before_of1 m hO (dats m hO 0 c) (A_eq m hO c 1) (after_1 m hO c) t d
theorem before_2 (hO : Ok m) (c : Dev nD) (t : Fin (cfgM m hO).N) (d) : (dats m hO 0 c).before 2 t d = iblk m hO c 2 t :=
  before_of2 m hO (dats m hO 0 c) (A_eq m hO c 2) (after_2 m hO c) t d
theorem before_3 (hO : Ok m) (c : Dev nD) (t : Fin (cfgM m hO).N) (d) : (dats m hO 0 c).before 3 t d = iblk m hO c 3 t :=
  before_of3 m hO (dats m hO 0 c) (A_eq m hO c 3) (after_3 m hO c) t d
theorem before_4 (hO : Ok m) (c : Dev nD) (t : Fin (cfgM m hO).N) (d) : (dats m hO 0 c).before 4 t d = iblk m hO c 4 t :=
  before_of4 m hO (dats m hO 0 c) (A_eq m hO c 4) (after_4 m hO c) t d

/-! What each window's buffer is returned with. -/

theorem live_0 (hO : Ok m) (t : Fin (cfgM m hO).N) : (cfgM m hO).idle 0 (grid0.coords t) = false := rfl
theorem leaves_0 (hO : Ok m) (c : Dev nD) (t : Fin (cfgM m hO).N) : (dats m hO 0 c).leavesExact 0 t = owns (c : Thread nD τ) (ms0 m hO t) fullShare (iblk m hO c 0 t) := by
  rw [← after_0]; unfold Dat.leavesExact; rw [live_0 m hO t]; try rfl
theorem live_1 (hO : Ok m) (t : Fin (cfgM m hO).N) : (cfgM m hO).idle 1 (grid0.coords t) = false := rfl
theorem leaves_1 (hO : Ok m) (c : Dev nD) (t : Fin (cfgM m hO).N) : (dats m hO 0 c).leavesExact 1 t = owns (c : Thread nD τ) (ms1 m hO t) fullShare (iblk m hO c 1 t) := by
  rw [← after_1]; unfold Dat.leavesExact; rw [live_1 m hO t]; try rfl
theorem live_2 (hO : Ok m) (t : Fin (cfgM m hO).N) : (cfgM m hO).idle 2 (grid0.coords t) = false := rfl
theorem leaves_2 (hO : Ok m) (c : Dev nD) (t : Fin (cfgM m hO).N) : (dats m hO 0 c).leavesExact 2 t = owns (c : Thread nD τ) (ms2 m hO t) fullShare (iblk m hO c 2 t) := by
  rw [← after_2]; unfold Dat.leavesExact; rw [live_2 m hO t]; try rfl
theorem live_3 (hO : Ok m) (t : Fin (cfgM m hO).N) : (cfgM m hO).idle 3 (grid0.coords t) = false := rfl
theorem leaves_3 (hO : Ok m) (c : Dev nD) (t : Fin (cfgM m hO).N) : (dats m hO 0 c).leavesExact 3 t = owns (c : Thread nD τ) (ms3 m hO t) fullShare (iblk m hO c 3 t) := by
  rw [← after_3]; unfold Dat.leavesExact; rw [live_3 m hO t]; try rfl
theorem live_4 (hO : Ok m) (t : Fin (cfgM m hO).N) : (cfgM m hO).idle 4 (grid0.coords t) = false := rfl
theorem leaves_4 (hO : Ok m) (c : Dev nD) (t : Fin (cfgM m hO).N) : (dats m hO 0 c).leavesExact 4 t = owns (c : Thread nD τ) (ms4 m hO t) fullShare (iblk m hO c 4 t) := by
  rw [← after_4]; unfold Dat.leavesExact; rw [live_4 m hO t]; try rfl
/-- Where the windows stand still is a matter of the tables. -/
theorem idle_tables (a : (pcfg0 (F := F)).Adm) : (cfg0 a).idle = idle0 a.1 := rfl

theorem live_5 (hO : Ok m) (t : Fin (cfgM m hO).N) : (cfgM m hO).idle 5 (grid0.coords t) = false :=
  (congrFun (congrFun (idle_tables (adm m hO)) 5) (grid0.coords t)).trans (idle_out (tbl m) (grid0.coords t))
theorem leaves_5 (hO : Ok m) (c : Dev nD) (t : Fin (cfgM m hO).N) : (dats m hO 0 c).leavesExact 5 t = owns (c : Thread nD τ) (ms5 m hO t) fullShare (leaves m hO c t) := by
  rw [← after_5]; unfold Dat.leavesExact; rw [live_5 m hO t]; try rfl

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

/-- The invariant before and after a point. -/
theorem inv_before (hO : Ok m) (c : Dev nD) (t : Fin (cfgM m hO).N) : (dats m hO 0 c).Φ t.castSucc = inv m hO c t.val := by dsimp only [dats]; rfl
theorem inv_after (hO : Ok m) (c : Dev nD) (t : Fin (cfgM m hO).N) : (dats m hO 0 c).Φ t.succ = inv m hO c (t.val + 1) := by dsimp only [dats]; rfl

set_option maxHeartbeats 2400000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [leaves_0 m hO c t, leaves_1 m hO c t, leaves_2 m hO c t, leaves_3 m hO c t, leaves_4 m hO c t, leaves_5 m hO c t]
  rw [show (dats m hO 0 c).owesAt () t.succ = (dats m hO 0 c).owesAt () t.castSucc from rfl, inv_before, inv_after]
  unfold inv
  rw [PhiT_eq]
  iintro ⟨⟨⟨%w1, %w2, %hH, HS0, HS1⟩, Hg, HT0, HT1⟩, Ho, ⟨%d0, H0⟩, ⟨%d1, H1⟩, ⟨%d2, H2⟩, ⟨%d3, H3⟩, ⟨%d4, H4⟩, ⟨%d5, H5⟩⟩
  have hnow := held_now m hO c t w1 w2 hH
  iapply (run_B c (grid0.coords t) (ms0 m hO t) (hs0 m hO t) (ms1 m hO t) (hs1 m hO t) (ms2 m hO t) (hs2 m hO t)
    (ms3 m hO t) (hs3 m hO t) (ms4 m hO t) (hs4 m hO t) (ms5 m hO t) (hs5 m hO t) scM0 (Memref.isWhole_whole _) scM1 (Memref.isWhole_whole _)
    (iblk m hO c 0 t) (iblk m hO c 1 t) (iblk m hO c 2 t) (iblk m hO c 3 t) (iblk m hO c 4 t) w1 w2 (tbl m 0) (tbl m 1) Set.univ _
    (if Loads m c t then k0_pay1 (iblk m hO c 1 t) else w1) rfl (if Loads m c t then k0_pay2 (iblk m hO c 3 t) else w2) rfl
    (leaves m hO c t) (leaves_eq m hO c t w1 w2 hnow) (dead_iff _ _))
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1]
    · iexists _; iexists _
      isplitr; swap
      · isplitl [HS0]; · iexact HS0
        iexact HS1
      ipureintro
      intro s hs hl
      obtain rfl : s = t := Fin.ext (by omega)
      exact hnow hl
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body does at every point what the account says. -/
theorem body_obligation (hO : Ok m) (c : Dev nD) : BodyObligation (dats (F := F) m hO 0 c) (defs₀ (F := F)) Variants.none () Set.univ := fun t => by
  rw [bigSep_W0, bigSep_W0, bodyAt_row m hO]
  refine triple_restated (sound_body m hO c t) rfl .rfl fun _ => ?_
  unfold bodyPost
  refine sep_mono .rfl (sep_mono .rfl (sep_mono .rfl (sep_mono .rfl (sep_mono .rfl (sep_mono .rfl (sep_mono .rfl ?_))))))
  rw [leaves_5 m hO c t]
  have h : (cfgM m hO).idle (5 : Fin 6) ((cfgM m hO).grid.coords t) = false := live_5 m hO t
  beta_reduce
  split
  · rename_i h'; exact absurd h' (by decide)
  · split
    · rename_i h'; exact absurd (h.symm.trans h') (by decide)
    · rw [after_5 m hO c t]

/-- Before the first point nothing is known of the weight buffers. -/
theorem inv_first (hO : Ok m) (c : Dev nD) : iprop(Pipeline.ΦA spec0 c ∗ Pipeline.ΦT pre0 (tbl m) c) ⊢ (dats m hO 0 c).Φ 0 := by
  rw [show (dats m hO 0 c).Φ 0 = inv m hO c 0 from by dsimp only [dats]; rfl, PhiA_eq]
  unfold inv
  iintro ⟨⟨⟨⟨%w1, HS0⟩, ⟨%w2, HS1⟩⟩, Hg⟩, HT⟩
  isplitl [HS0 HS1]
  · iexists w1; iexists w2
    isplitr; swap
    · isplitl [HS0]; · iexact HS0
      iexact HS1
    ipureintro
    intro s hs _
    exact absurd hs (Nat.succ_ne_zero _)
  isplitl [Hg]; · iexact Hg
  iexact HT

/-- After the last point the weight buffers are handed back. -/
theorem inv_last (hO : Ok m) (c : Dev nD) : (dats m hO 0 c).Φ (Fin.last (cfgM m hO).N) ⊢ Pipeline.ΦA spec0 c := by
  rw [show (dats m hO 0 c).Φ (Fin.last (cfgM m hO).N) = inv m hO c (cfgM m hO).N from by dsimp only [dats]; rfl, PhiA_eq]
  unfold inv
  iintro ⟨⟨%w1, %w2, -, HS0, HS1⟩, Hg, -⟩
  isplitl [HS0 HS1]
  · isplitl [HS0]; · iexists _; iexact HS0
    iexists _; iexact HS1
  iexact Hg

set_option backward.isDefEq.respectTransparency.types false in
/-- The run: every array of the call ends as the account says, every other buffer as the call found it, the counters at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := inv_first m hO) (hout := inv_last m hO)

/-- The arguments end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨fun c =>
    ⟨((hr.1 c).2 main_arg0 (by decide : main_arg0 ∈ Pipeline.restRefs sig spec0)).trans (V_arg0 m c),
      ((hr.1 c).2 main_arg1 (by decide : main_arg1 ∈ Pipeline.restRefs sig spec0)).trans (V_arg1 m c),
      (((hr.1 c).1 1).trans ((dats m hO 0 c).arrAt_in 1 rfl _)).trans ((A_eq m hO c 1).trans (V_arg2 m c)),
      ((hr.1 c).2 main_arg3 (by decide : main_arg3 ∈ Pipeline.restRefs sig spec0)).trans (V_arg3 m c),
      (((hr.1 c).1 3).trans ((dats m hO 0 c).arrAt_in 3 rfl _)).trans ((A_eq m hO c 3).trans (V_arg4 m c)),
      ((hr.1 c).2 main_arg5 (by decide : main_arg5 ∈ Pipeline.restRefs sig spec0)).trans (V_arg5 m c)⟩, hr.2⟩) (run_main m ρ hO)

end Cert.Proof.Experts

end
-- ==== Proof.ExpertsPrep.lean ====
/-  The arrays and the tables the host prepares for the experts call. -/
module

public import proofs.«01_k».proof.Proof.ExpertsKit
public import proofs.«01_k».proof.Proof.Gen.Reference2Ideal.Read

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One stretch of host operations after another. -/
theorem after_join {τ : Topo} {sig : RefSig} {Val : EltTy → Type} (l l' : List (HloOp τ sig Val)) (W : Valuation τ sig Val) :
    StableHlo.after (l ++ l') W = StableHlo.after l' (StableHlo.after l W) := by
  induction l generalizing W with
  | nil => rfl
  | cons op l ih => exact ih _

/-- Each block's expert, from the experts' end rows. -/
abbrev ownerOf (p : IVec S32 32) : IVec S288 32 := Cert.Reference2Ideal.Read.val_main_v11 (F := F) p

/-- The number of used blocks, from the experts' end rows. -/
abbrev countOf (p : IVec S32 32) : IVec S_ 32 := Cert.Reference2Ideal.Read.val_main_v75 (F := F) p

section Lines

variable (W : Valuation τ sig (Elt F))

theorem first_v12 : StableHlo.after hostOps0 W (main_v12 : DevRef τ sig) = ownerOf (F := F) (W (main_arg1 : DevRef τ sig)) := by
  after_results
  rfl
theorem first_v0 : StableHlo.after hostOps0 W (main_v0 : DevRef τ sig) = shapeCast S589824x128 (W (main_arg0 : DevRef τ sig)) shapeCasts_S288x256x1024_S589824x128 := by
  after_results
  rfl
theorem first_v14 : StableHlo.after hostOps0 W (main_v14 : DevRef τ sig) = Cert.Reference2Ideal.Read.val_main_v74 (F := F) (W (main_arg1 : DevRef τ sig)) := by
  after_results
  rfl
theorem first_c2 : StableHlo.after hostOps0 W (main_c_2 : DevRef τ sig) = constantI S_ 32 256#32 := by
  after_results
theorem first_arg3 : StableHlo.after hostOps0 W (main_arg3 : DevRef τ sig) = W (main_arg3 : DevRef τ sig) := by
  after_results
theorem first_arg5 : StableHlo.after hostOps0 W (main_arg5 : DevRef τ sig) = W (main_arg5 : DevRef τ sig) := by
  after_results

theorem second_v15 (p : IVec S32 32) (h : W (main_v14 : DevRef τ sig) = Cert.Reference2Ideal.Read.val_main_v74 (F := F) p)
    (hc : W (main_c_2 : DevRef τ sig) = constantI S_ 32 256#32) :
    StableHlo.after hostOps0_1 W (main_v15 : DevRef τ sig) = countOf (F := F) p := by
  simp only [hostOps0_1, StableHlo.TRef.ternary, StableHlo.TRef.binary, StableHlo.TRef.nullary, StableHlo.TRef.unary, StableHlo.TRef.toBuf, StableHlo.TRef.ofBuf, cast_eq]
  after_results
  rw [h, hc]
  rfl
theorem second_v12 : StableHlo.after hostOps0_1 W (main_v12 : DevRef τ sig) = W (main_v12 : DevRef τ sig) := by
  simp only [hostOps0_1, StableHlo.TRef.ternary, StableHlo.TRef.binary, StableHlo.TRef.nullary, StableHlo.TRef.unary, StableHlo.TRef.toBuf, StableHlo.TRef.ofBuf, cast_eq]
  after_results
theorem second_v0 : StableHlo.after hostOps0_1 W (main_v0 : DevRef τ sig) = W (main_v0 : DevRef τ sig) := by
  simp only [hostOps0_1, StableHlo.TRef.ternary, StableHlo.TRef.binary, StableHlo.TRef.nullary, StableHlo.TRef.unary, StableHlo.TRef.toBuf, StableHlo.TRef.ofBuf, cast_eq]
  after_results
theorem second_arg3 : StableHlo.after hostOps0_1 W (main_arg3 : DevRef τ sig) = W (main_arg3 : DevRef τ sig) := by
  simp only [hostOps0_1, StableHlo.TRef.ternary, StableHlo.TRef.binary, StableHlo.TRef.nullary, StableHlo.TRef.unary, StableHlo.TRef.toBuf, StableHlo.TRef.ofBuf, cast_eq]
  after_results
theorem second_arg5 : StableHlo.after hostOps0_1 W (main_arg5 : DevRef τ sig) = W (main_arg5 : DevRef τ sig) := by
  simp only [hostOps0_1, StableHlo.TRef.ternary, StableHlo.TRef.binary, StableHlo.TRef.nullary, StableHlo.TRef.unary, StableHlo.TRef.toBuf, StableHlo.TRef.ofBuf, cast_eq]
  after_results

theorem third_v16 : StableHlo.after hostOps0_2 W (main_v16 : DevRef τ sig) = shapeCast S1 (W (main_v15 : DevRef τ sig)) shapeCasts_S_S1 := by
  after_results
  rfl
theorem third_v17 : StableHlo.after hostOps0_2 W (main_v17 : DevRef τ sig) = shapeCast S2x32x1x2048 (W (main_arg3 : DevRef τ sig)) shapeCasts_S2x32x2048_S2x32x1x2048 := by
  after_results
  rfl
theorem third_v18 : StableHlo.after hostOps0_2 W (main_v18 : DevRef τ sig) = shapeCast S2x32x1x1024 (W (main_arg5 : DevRef τ sig)) shapeCasts_S2x32x1024_S2x32x1x1024 := by
  after_results
  rfl
theorem third_v12 : StableHlo.after hostOps0_2 W (main_v12 : DevRef τ sig) = W (main_v12 : DevRef τ sig) := by
  after_results
theorem third_v0 : StableHlo.after hostOps0_2 W (main_v0 : DevRef τ sig) = W (main_v0 : DevRef τ sig) := by
  after_results

end Lines

variable (m : (ℓ : Loc nD τ sig) → Buf (Elt F) ℓ) (c : Dev nD)

/-- What the call finds is the three stretches of host operations, one after another. -/
theorem V_stages (b : Ref sig .tc) : V m c b
    = StableHlo.after hostOps0_2 (StableHlo.after hostOps0_1 (StableHlo.after hostOps0 fun b => m (c, b))) (b : DevRef τ sig) := by
  unfold V
  rw [show List.flatten [hostOps0, hostOps0_1, hostOps0_2] = (hostOps0 : List (HloOp τ sig (Elt F))) ++ (hostOps0_1 ++ hostOps0_2) from by rfl]
  simp only [after_join]

/-- The call's first table: each block's expert. -/
theorem V_owner : V m c main_v12 = ownerOf (F := F) (m (c, (main_arg1 : DevRef τ sig))) := by
  rw [V_stages, third_v12, second_v12, first_v12]
/-- The call's second table: the number of used blocks. -/
theorem V_count : V m c main_v16 = shapeCast S1 (countOf (F := F) (m (c, (main_arg1 : DevRef τ sig)))) shapeCasts_S_S1 := by
  rw [V_stages, third_v16, second_v15 _ _ (first_v14 _) (first_c2 _)]
/-- The call's tokens: the blocks laid out in rows of 128. -/
theorem V_tokens : V m c main_v0 = shapeCast S589824x128 (m (c, (main_arg0 : DevRef τ sig))) shapeCasts_S288x256x1024_S589824x128 := by
  rw [V_stages, third_v0, second_v0, first_v0]
/-- The first biases, with a unit axis. -/
theorem V_bias1 : V m c main_v17 = shapeCast S2x32x1x2048 (m (c, (main_arg3 : DevRef τ sig))) shapeCasts_S2x32x2048_S2x32x1x2048 := by
  rw [V_stages, third_v17, second_arg3, first_arg3]
/-- The second biases, with a unit axis. -/
theorem V_bias2 : V m c main_v18 = shapeCast S2x32x1x1024 (m (c, (main_arg5 : DevRef τ sig))) shapeCasts_S2x32x1024_S2x32x1x1024 := by
  rw [V_stages, third_v18, second_arg5, first_arg5]

end Cert.Proof.Experts

end
-- ==== Proof.ExpertsTables.lean ====
/-  The values of the experts call's tables, and that every block they name is inside its array. -/
module

public import proofs.«01_k».proof.Proof.ExpertsPrep
public import proofs.«01_k».proof.Proof.ExpertsWords
public import Idealize.ShloMosaic.Lib.Routing.OpsSearch
public import Idealize.ShloMosaic.Lib.StableHlo.Predicate

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Reference2Ideal.Read

/-- A block's expert is one of the 32. -/
theorem owner_lt (p : IVec S32 32) (j : S288.Idx) : (ownerOf (F := F) p j).toNat < 32 := by
  have hc : (val_main_v9 (F := F) p j).toNat ≤ 32 := by
    refine (StableHlo.Predicate.toNat_reduce_count_cols (by decide) (val_main_v7 (F := F) p) _ Cert.Reference2Ideal.Gen.reducesTo_S288x32_S288_d1 Cert.Reference2Ideal.Gen.h_S_ j).trans_le ?_
    exact (Finset.card_le_univ _).trans (by simp)
  have h31 : (val_main_v10 (F := F) j) = 31#32 := by rw [val_main_v10_apply]; rfl
  rw [show ownerOf (F := F) p j = IntOp.minsi (val_main_v9 (F := F) p j) (val_main_v10 (F := F) j) from rfl, h31]
  generalize val_main_v9 (F := F) p j = x at hc
  have e : x.toInt = x.toNat := BitVec.toInt_eq_toNat_of_lt (by omega)
  unfold IntOp.minsi
  by_cases h : x.slt 31#32 = true
  · rw [if_pos h]
    rw [BitVec.slt_iff_toInt_lt, e] at h
    have : (31#32 : BitVec 32).toInt = 31 := by decide
    omega
  · rw [if_neg h]; decide

/-- The last end row, as a word. -/
abbrev lastEnd (p : IVec S32 32) : BitVec 32 := p (ix1 ⟨31, by decide⟩)

theorem last_eq (p : IVec S32 32) (i : S_.Idx) : val_main_v74 (F := F) p i = lastEnd p := by
  unfold val_main_v74
  have e : ∀ q : S1.Idx, val_main_v73 (F := F) p q = lastEnd p := by
    intro q
    rw [val_main_v73_apply]
    refine congrArg p (funext fun a => ?_)
    match a with
    | ⟨0, _⟩ =>
      refine Fin.ext ?_
      have hq : (q 0).val < 1 := (q 0).isLt
      show _ = 31
      simp only [idx_main_v73]
      omega
  exact e _

/-- The number of used blocks is the last end row over 256. -/
theorem count_val (p : IVec S32 32) (h : 256 ≤ (lastEnd p).toInt) (i : S_.Idx) :
    countOf (F := F) p i = BitVec.ofNat 32 ((lastEnd p).toNat / 256) := by
  have hl : (lastEnd p).toNat < 2 ^ 31 := by
    have := BitVec.toInt_eq_toNat_cond (lastEnd p)
    have := (lastEnd p).isLt
    split_ifs at * <;> omega
  obtain rfl : i = Idealize.ShloMosaic.ix0 := funext fun a => a.elim0
  refine Routing.pyDiv0_ap (val_main_v74 (F := F) p) (constantI S_ 32 256#32) ?_ rfl hl (by decide) (by decide)
  rw [last_eq, BitVec.ofNat_toNat, BitVec.setWidth_eq]

variable (m : (ℓ : Loc nD τ sig) → Buf (Elt F) ℓ)

/-- The end rows. -/
abbrev ends : IVec S32 32 := m ((0 : Dev nD), (main_arg1 : DevRef τ sig))

/-- The first table's words. -/
theorem tbl_owner (k : Fin 288) : (tbl m 0 (cell k) : BitVec 32) = ownerOf (F := F) (ends m) (ix1 k) :=
  congrFun (V_owner m 0) (cell k)

/-- The second table's word. -/
theorem tbl_count : (tbl m 1 cell1 : BitVec 32) = countOf (F := F) (ends m) Idealize.ShloMosaic.ix0 :=
  (congrFun (V_count m 0) cell1).trans (congrArg (countOf (F := F) (ends m)) (funext fun a => a.elim0))

/-- The input block a point asks for is among the 288. -/
theorem own_le (i : grid0.Coords) (n : BitVec 32) (hn : 1 ≤ n.toInt) :
    (Scalar.minsi (BitVec.ofNat 32 (i 0).val) (Scalar.subi n 1#32)).toNat ≤ 287 := by
  have hi : (i 0).val < 288 := (i 0).isLt
  have hs : (Scalar.subi n 1#32).toInt = n.toInt - 1 := by
    show (n - 1#32).toInt = _
    have hb := BitVec.toInt_lt (x := n)
    rw [BitVec.toInt_sub]
    have : (1#32 : BitVec 32).toInt = 1 := by decide
    rw [this]
    exact Int.bmod_eq_of_le (by omega) (by omega)
  generalize Scalar.subi n 1#32 = y at hs
  show (IntOp.minsi _ y).toNat ≤ 287
  unfold IntOp.minsi
  by_cases h : (BitVec.ofNat 32 (i 0).val).slt y = true
  · rw [if_pos h, BitVec.toNat_ofNat]; omega
  · rw [if_neg h]
    rw [BitVec.slt_iff_toInt_lt, point_toInt, hs] at h
    have := BitVec.toInt_eq_toNat_cond y
    split_ifs at this <;> omega

/-- Tables whose experts are among the 32 and whose count is positive name blocks inside the arrays. -/
theorem ok_of_words (pf : pre0.Contents (Elt F)) (ho : ∀ k, (pf 0 (cell k) : BitVec 32).toNat < 32)
    (hn : 1 ≤ (pf 1 cell1 : BitVec 32).toInt) : ok0 pf := by
  have hx : ∀ i : grid0.Coords, (Scalar.minsi (BitVec.ofNat 32 (i 0).val) (Scalar.subi (pf 1 cell1 : BitVec 32) 1#32)).toNat ≤ 287 := fun i => own_le i _ hn
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩⟩
  · rw [block0]
    match a with
    | ⟨0, _⟩ => have := hx i; show ((Scalar.minsi (BitVec.ofNat 32 (i 0).val) (Scalar.subi (pf 1 cell1 : BitVec 32) 1#32)).toNat + 1) * 2048 ≤ 589824; omega
    | ⟨1, _⟩ => show (0 + 1) * 128 ≤ 128; omega
  · rw [block1]
    match a with
    | ⟨0, _⟩ => show (0 + 1) * 1 ≤ 2; omega
    | ⟨1, _⟩ => have := ho (i 0); show ((pf 0 (cell (i 0)) : BitVec 32).toNat + 1) * 1 ≤ 32; omega
    | ⟨2, _⟩ => show (0 + 1) * 1024 ≤ 1024; omega
    | ⟨3, _⟩ => show (0 + 1) * 2048 ≤ 2048; omega
  · rw [block2]
    match a with
    | ⟨0, _⟩ => show (0 + 1) * 1 ≤ 2; omega
    | ⟨1, _⟩ => have := ho (i 0); show ((pf 0 (cell (i 0)) : BitVec 32).toNat + 1) * 1 ≤ 32; omega
    | ⟨2, _⟩ => show (0 + 1) * 1 ≤ 1; omega
    | ⟨3, _⟩ => show (0 + 1) * 2048 ≤ 2048; omega
  · rw [block3]
    match a with
    | ⟨0, _⟩ => show (0 + 1) * 1 ≤ 2; omega
    | ⟨1, _⟩ => have := ho (i 0); show ((pf 0 (cell (i 0)) : BitVec 32).toNat + 1) * 1 ≤ 32; omega
    | ⟨2, _⟩ => show (0 + 1) * 1024 ≤ 1024; omega
    | ⟨3, _⟩ => show (0 + 1) * 1024 ≤ 1024; omega
  · rw [block4]
    match a with
    | ⟨0, _⟩ => show (0 + 1) * 1 ≤ 2; omega
    | ⟨1, _⟩ => have := ho (i 0); show ((pf 0 (cell (i 0)) : BitVec 32).toNat + 1) * 1 ≤ 32; omega
    | ⟨2, _⟩ => show (0 + 1) * 1 ≤ 1; omega
    | ⟨3, _⟩ => show (0 + 1) * 1024 ≤ 1024; omega

/-- The number of used blocks as an integer. -/
theorem count_toInt (p : IVec S32 32) (h : 256 ≤ (lastEnd p).toInt) (i : S_.Idx) : (countOf (F := F) p i).toInt = (lastEnd p).toInt / 256 := by
  have hl : (lastEnd p).toInt = (lastEnd p).toNat ∧ (lastEnd p).toNat < 2 ^ 31 := by
    have := BitVec.toInt_eq_toNat_cond (lastEnd p)
    have := (lastEnd p).isLt
    split_ifs at * <;> omega
  rw [count_val p h, hl.1, WordCmp.toInt_ofNat_of_lt (by omega)]
  rfl

/-- With at least one full block used, every block the tables name is inside its array. -/
theorem ok_of_ends (h : 256 ≤ (lastEnd (ends m)).toInt) : Ok m := by
  refine ok_of_words (tbl m) (fun k => ?_) ?_
  · exact (congrArg BitVec.toNat (tbl_owner m k)).trans_lt (owner_lt _ _)
  · refine le_of_le_of_eq ?_ (congrArg BitVec.toInt (tbl_count m)).symm
    rw [count_toInt _ h]; omega

end Cert.Proof.Experts

end
-- ==== Proof.ExpertsElem.lean ====
/-  One expert's block read at an element, over the extended reals. -/
module

public import proofs.«01_k».proof.Proof.ExpertsBody
public import Idealize.ShloMosaic.Lib.Pointwise
public import Idealize.ShloMosaic.Lib.Pipeline.Value

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open scoped BigOperators

/-- 7, -7, 1 and 1.702 as the programs write them. -/
abbrev seven : EReal := Ideal.ofBits FTy.f32 0x40E00000#32
abbrev negSeven : EReal := Ideal.ofBits FTy.f32 0xC0E00000#32
abbrev unity : EReal := Ideal.ofBits FTy.f32 0x3F800000#32
abbrev slope : EReal := Ideal.ofBits FTy.f32 0x3FD9DB23#32

/-- One column of the first product of one row: `∑ k, x k * w k c + b c`. -/
def hidden (x : Fin 1024 → EReal) (w : Fin 1024 → Fin 2048 → EReal) (b : Fin 2048 → EReal) (c : Fin 2048) : EReal :=
  (∑ k : Fin 1024, x k * w k c) + b c

/-- The gate `g` and the other half `u`, combined after clipping: `(u + 1) * (g * sigmoid (1.702 * g))`. -/
def glu (g u : EReal) : EReal :=
  (min seven (max negSeven u) + unity) * (min g seven * Ideal.logistic (slope * min g seven))

/-- What one expert makes of one row: the gate is the first 1024 columns of the first product, the other half the last 1024. -/
def expertRow (x : Fin 1024 → EReal) (w : Fin 1024 → Fin 2048 → EReal) (b : Fin 2048 → EReal)
    (w' : Fin 1024 → Fin 1024 → EReal) (b' : Fin 1024 → EReal) (c : Fin 1024) : EReal :=
  (∑ k : Fin 1024, glu (hidden x w b ⟨k.val, by omega⟩) (hidden x w b ⟨1024 + k.val, by omega⟩) * w' k c) + b' c

/-- A block's row of 1024, from its rows of 128. -/
def rowOf (x : Vec Ideal S2048x128 .f32) (r : Fin 256) (k : Fin 1024) : EReal :=
  x (ix2 ⟨8 * r.val + k.val / 128, by omega⟩ ⟨k.val % 128, by omega⟩)

/-- Eight pieces of 128 columns side by side. -/
theorem eight_pieces (f : Fin 8 → (S256x128.Idx → EReal))
    (h : Shape.Concatenates [S256x128, S256x128, S256x128, S256x128, S256x128, S256x128, S256x128, S256x128] S256x1024 1) (r : Fin 256) (k : Fin 1024) :
    concatenate S256x1024 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩] h (ix2 r k)
      = f ⟨k.val / 128, by omega⟩ (ix2 r ⟨k.val % 128, by omega⟩) := by
  refine concatenate_ofFn_apply (t := S256x1024) (s₁ := S256x128) (N := 8) 1 f h rfl 128 rfl (ix2 r k) ⟨k.val / 128, by omega⟩ rfl _ rfl ?_
  intro b hb
  match b with
  | ⟨0, _⟩ => rfl
  | ⟨1, _⟩ => exact absurd rfl hb

/-- The first product of 256 rows. -/
def product1 (X : FVec F S256x1024 .f32) (w : Vec F S1024x2048 .bf16) (b : Vec F S1x1x1x2048 .f32) : FVec F S256x2048 .f32 :=
  addf (matmul dot_S256x1024_S1024x2048_S256x2048_1_0_0_1_n_n none (truncf .bf16 X bitsLt_bf16_f32) w (constant S256x2048 .f32 0x00000000#32))
    (broadcastTo S256x2048 (shapeCast S1x2048 b shapeCasts_S1x1x1x2048_S1x2048) broadcasts_S1x2048_S256x2048)

theorem product1_apply (X : FVec Ideal S256x1024 .f32) (w : Vec Ideal S1024x2048 .bf16) (b : Vec Ideal S1x1x1x2048 .f32) (r : Fin 256) (c : Fin 2048) :
    product1 (F := Ideal) X w b (ix2 r c) = (∑ k : Fin 1024, X (ix2 r k) * w (ix2 k c)) + b (ix4 0 0 0 c) := by
  pointwise [product1]

/-- The first product. -/
theorem first_product (x : Vec Ideal S2048x128 .f32) (w : Vec Ideal S1024x2048 .bf16) (b : Vec Ideal S1x1x1x2048 .f32) (r : Fin 256) (c : Fin 2048) :
    k0_pay4 (rowsFrom x 0) (rowsFrom x 1) (rowsFrom x 2) (rowsFrom x 3) (rowsFrom x 4) (rowsFrom x 5) (rowsFrom x 6) (rowsFrom x 7) w b (ix2 r c)
      = hidden (rowOf x r) (fun k c => w (ix2 k c)) (fun c => b (ix4 0 0 0 c)) c := by
  let f : Fin 8 → (S256x128.Idx → EReal) := fun s => shapeCast S256x128 (rowsFrom x s) shapeCasts_S256x128_S256x128
  refine (product1_apply (concatenate S256x1024 1 [⟨S256x128, f 0⟩, ⟨S256x128, f 1⟩, ⟨S256x128, f 2⟩, ⟨S256x128, f 3⟩, ⟨S256x128, f 4⟩, ⟨S256x128, f 5⟩,
      ⟨S256x128, f 6⟩, ⟨S256x128, f 7⟩] concatenates_S256x128_S256x128_S256x128_S256x128_S256x128_S256x128_S256x128_S256x128_S256x1024_d1) w b r c).trans ?_
  unfold hidden
  refine congrArg (· + _) (Finset.sum_congr rfl fun k _ => congrArg (· * _) ?_)
  refine (eight_pieces f _ r k).trans ?_
  exact congrFun (shapeCast_self (rowsFrom x _) _) _

/-- The clipped gate. -/
theorem gate_apply (x : Vec Ideal S2048x128 .f32) (w : Vec Ideal S1024x2048 .bf16) (b : Vec Ideal S1x1x1x2048 .f32) (r : Fin 256) (k : Fin 1024) :
    gateOf x w b (ix2 r k) = min (hidden (rowOf x r) (fun k c => w (ix2 k c)) (fun c => b (ix4 0 0 0 c)) ⟨k.val, by omega⟩) seven := by
  rw [← first_product]
  unfold gateOf k0_pay5
  generalize k0_pay4 (rowsFrom x 0) (rowsFrom x 1) (rowsFrom x 2) (rowsFrom x 3) (rowsFrom x 4) (rowsFrom x 5) (rowsFrom x 6) (rowsFrom x 7) w b = X
  pointwise []

/-- The clipped other half. -/
theorem up_apply (x : Vec Ideal S2048x128 .f32) (w : Vec Ideal S1024x2048 .bf16) (b : Vec Ideal S1x1x1x2048 .f32) (r : Fin 256) (k : Fin 1024) :
    upOf x w b (ix2 r k) = min seven (max negSeven (hidden (rowOf x r) (fun k c => w (ix2 k c)) (fun c => b (ix4 0 0 0 c)) ⟨1024 + k.val, by omega⟩)) := by
  rw [← first_product]
  unfold upOf k0_pay6
  generalize k0_pay4 (rowsFrom x 0) (rowsFrom x 1) (rowsFrom x 2) (rowsFrom x 3) (rowsFrom x 4) (rowsFrom x 5) (rowsFrom x 6) (rowsFrom x 7) w b = X
  pointwise []

/-- The second product of a gate and another half. -/
theorem second_product (g u : FVec Ideal S256x1024 .f32) (w' : Vec Ideal S1024x1024 .bf16) (b' : Vec Ideal S1x1x1x1024 .f32) (r : Fin 256) (c : Fin 1024) :
    k0_pay8 g u k0_pay7 w' b' (ix2 r c)
      = (∑ k : Fin 1024, ((u (ix2 r k) + unity) * (g (ix2 r k) * Ideal.logistic (slope * g (ix2 r k)))) * w' (ix2 k c)) + b' (ix4 0 0 0 c) := by
  pointwise [k0_pay8, k0_pay7]

/-- The expert's rows. -/
theorem rowsOut_apply (x : Vec Ideal S2048x128 .f32) (w : Vec Ideal S1024x2048 .bf16) (b : Vec Ideal S1x1x1x2048 .f32)
    (w' : Vec Ideal S1024x1024 .bf16) (b' : Vec Ideal S1x1x1x1024 .f32) (r : Fin 256) (c : Fin 1024) :
    rowsOut x w b w' b' (ix2 r c) = expertRow (rowOf x r) (fun k c => w (ix2 k c)) (fun c => b (ix4 0 0 0 c)) (fun k c => w' (ix2 k c)) (fun c => b' (ix4 0 0 0 c)) c := by
  unfold rowsOut expertRow
  rw [second_product]
  refine congrArg (· + _) (Finset.sum_congr rfl fun k _ => ?_)
  rw [gate_apply, up_apply]
  rfl

/-- The weights as loaded. -/
theorem load1_apply (w : Vec Ideal S1x1x1024x2048 .f32) (k : Fin 1024) (c : Fin 2048) : k0_pay1 w (ix2 k c) = w (ix4 0 0 k c) := by
  pointwise [k0_pay1]
theorem load2_apply (w : Vec Ideal S1x1x1024x1024 .f32) (k : Fin 1024) (c : Fin 1024) : k0_pay2 w (ix2 k c) = w (ix4 0 0 k c) := by
  pointwise [k0_pay2]
/-- A block that is not used is left at zero. -/
theorem blank_apply (i : S2048x128.Idx) : k0_pay3 (F := Ideal) i = 0 := by
  pointwise [k0_pay3]

end Cert.Proof.Experts

end
-- ==== Proof.ExpertsReference.lean ====
/-  The experts reference read at an element, over the extended reals. -/
module

public import proofs.«01_k».proof.Proof.ExpertsTables
public import proofs.«01_k».proof.Proof.ExpertsElem
public import Idealize.ShloMosaic.Lib.Routing.Ops

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open scoped BigOperators
open Cert.Reference2Ideal.Read

section Gather

variable {α : Type} {N n A B : ℕ}

/-- The dimension numbers of `x[idx]` over an array of `N` matrices. -/
abbrev pickDims (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- `x[idx]` over an array of matrices: entry `(c, p, q)` is the entry `(p, q)` of the matrix `idx` names at `c`. -/
theorem pick_apply (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (p : Fin A) (q : Fin B) (b : Fin N)
    (hb : (idx (ix2 c (0 : Fin 1))).toInt = (b.val : ℤ)) :
    Host.gather (pickDims wf) x idx (ix3 c p q) = x (ix3 b p q) := by
  unfold Host.gather
  refine congrArg x (funext fun a => Fin.ext ?_)
  show (pickDims wf).start (ix3 c p q) idx a + (pickDims wf).batchCoord (ix3 c p q) a + (pickDims wf).offCoord (ix3 c p q) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 3) ∈ (pickDims wf).startIndexMap from List.mem_singleton.mpr rfl)]
    have hsi : (pickDims wf).siIdx (ix3 c p q) ⟨List.idxOf (0 : Fin 3) (pickDims wf).startIndexMap,
        List.idxOf_lt_length_iff.2 (List.mem_singleton.mpr rfl)⟩ = ix2 c (0 : Fin 1) := by
      funext e; refine Fin.ext ?_
      match e with
      | ⟨0, _⟩ => rfl
      | ⟨1, _⟩ => rfl
    have hbl := b.isLt
    refine Eq.trans (congrArg (fun z => min (BitVec.toInt (idx z)).toNat (N - 1)) hsi) ?_
    rw [hb]
    show min ((b.val : ℤ)).toNat (N - 1) = b.val
    omega
  | ⟨1, _⟩ =>
    unfold GatherDims.start
    rw [dif_neg (show (⟨1, _⟩ : Fin 3) ∉ (pickDims wf).startIndexMap from fun h => absurd (congrArg Fin.val (List.mem_singleton.mp h)) Nat.one_ne_zero), Nat.zero_add]
    unfold GatherDims.offCoord
    rw [dif_pos ((GatherDims.mem_sKept _ _).mpr ⟨fun h => absurd (congrArg Fin.val (List.mem_singleton.mp h)) Nat.one_ne_zero, List.not_mem_nil⟩)]
    rfl
  | ⟨2, _⟩ =>
    unfold GatherDims.start
    rw [dif_neg (show (⟨2, _⟩ : Fin 3) ∉ (pickDims wf).startIndexMap from fun h => absurd (congrArg Fin.val (List.mem_singleton.mp h)) (Nat.succ_ne_zero 1)), Nat.zero_add]
    unfold GatherDims.offCoord
    rw [dif_pos ((GatherDims.mem_sKept _ _).mpr ⟨fun h => absurd (congrArg Fin.val (List.mem_singleton.mp h)) (Nat.succ_ne_zero 1), List.not_mem_nil⟩)]
    rfl

end Gather

variable (p : IVec S32 32)

/-- The expert of block `t`. -/
abbrev who (t : Fin 288) : Fin 32 := ⟨(ownerOf (F := Ideal) p (ix1 t)).toNat, owner_lt p (ix1 t)⟩

theorem owner_toInt (j : S288.Idx) : (ownerOf (F := Ideal) p j).toInt = ((ownerOf (F := Ideal) p j).toNat : ℤ) :=
  BitVec.toInt_eq_toNat_of_lt (by have := owner_lt (F := Ideal) p j; omega)

/-- An index that is not negative is taken as it stands. -/
theorem wrap_eq (x y : BitVec 32) (h : x.toInt = (x.toNat : ℤ)) : Scalar.select (IntOp.cmpi .slt x 0#32) y x = x := by
  have e : IntOp.cmpi .slt x 0#32 = 0#1 := by
    show BitVec.ofBool (x.slt 0#32) = 0#1
    have : x.slt 0#32 = false := by
      rw [← Bool.not_eq_true, BitVec.slt_iff_toInt_lt, h]
      have : (0#32 : BitVec 32).toInt = 0 := by decide
      omega
    rw [this]; rfl
  rw [e]; rfl

theorem where1 (t : Fin 288) : val_main_v19 (F := Ideal) p (ix2 t 0) = ownerOf (F := Ideal) p (ix1 t) := by
  rw [val_main_v19_apply, show idx_main_v19 (ix2 t 0) = ix1 t from funext fun a => match a with | ⟨0, _⟩ => rfl]
  exact wrap_eq _ _ (owner_toInt p _)
theorem where2 (t : Fin 288) : val_main_v29 (F := Ideal) p (ix2 t 0) = ownerOf (F := Ideal) p (ix1 t) := by
  rw [val_main_v29_apply, show idx_main_v29 (ix2 t 0) = ix1 t from funext fun a => match a with | ⟨0, _⟩ => rfl]
  exact wrap_eq _ _ (owner_toInt p _)
theorem where3 (t : Fin 288) : val_main_v58 (F := Ideal) p (ix2 t 0) = ownerOf (F := Ideal) p (ix1 t) := by
  rw [val_main_v58_apply, show idx_main_v58 (ix2 t 0) = ix1 t from funext fun a => match a with | ⟨0, _⟩ => rfl]
  exact wrap_eq _ _ (owner_toInt p _)
theorem where4 (t : Fin 288) : val_main_v68 (F := Ideal) p (ix2 t 0) = ownerOf (F := Ideal) p (ix1 t) := by
  rw [val_main_v68_apply, show idx_main_v68 (ix2 t 0) = ix1 t from funext fun a => match a with | ⟨0, _⟩ => rfl]
  exact wrap_eq _ _ (owner_toInt p _)

theorem owner_word (t : Fin 288) : ownerOf (F := Ideal) p (ix1 t) = BitVec.ofNat 32 (who p t).val := by
  rw [BitVec.ofNat_toNat, BitVec.setWidth_eq]

/-- The weights and biases the reference takes for a block. -/
theorem weight1 (x2 : FVec Ideal S2x32x1024x2048 .f32) (t : Fin 288) (k : Fin 1024) (c : Fin 2048) :
    val_main_v20 (F := Ideal) p x2 (ix3 t k c) = x2 (ix4 0 (who p t) k c) := by
  refine (pick_apply _ (val_main_v13 (F := Ideal) x2) (val_main_v19 (F := Ideal) p) t k c (who p t) ?_).trans ?_
  · rw [where1, owner_toInt]
  · pointwise [val_main_v13, val_main_v12]
theorem bias1 (x3 : FVec Ideal S2x32x2048 .f32) (t : Fin 288) (c : Fin 2048) :
    val_main_v30 (F := Ideal) p x3 (ix2 t c) = x3 (ix3 0 (who p t) c) := by
  refine (Routing.gather_row _ rfl rfl rfl rfl rfl (val_main_v23 (F := Ideal) x3) (val_main_v29 (F := Ideal) p) t c (who p t) ?_ (by decide)).trans ?_
  · exact (where2 p t).trans (owner_word p t)
  · pointwise [val_main_v23, val_main_v22]
theorem weight2 (x4 : FVec Ideal S2x32x1024x1024 .f32) (t : Fin 288) (k : Fin 1024) (c : Fin 1024) :
    val_main_v59 (F := Ideal) p x4 (ix3 t k c) = x4 (ix4 0 (who p t) k c) := by
  refine (pick_apply _ (val_main_v52 (F := Ideal) x4) (val_main_v58 (F := Ideal) p) t k c (who p t) ?_).trans ?_
  · rw [where3, owner_toInt]
  · pointwise [val_main_v52, val_main_v51]
theorem bias2 (x5 : FVec Ideal S2x32x1024 .f32) (t : Fin 288) (c : Fin 1024) :
    val_main_v69 (F := Ideal) p x5 (ix2 t c) = x5 (ix3 0 (who p t) c) := by
  refine (Routing.gather_row _ rfl rfl rfl rfl rfl (val_main_v62 (F := Ideal) x5) (val_main_v68 (F := Ideal) p) t c (who p t) ?_ (by decide)).trans ?_
  · exact (where4 p t).trans (owner_word p t)
  · pointwise [val_main_v62, val_main_v61]

variable (x0 : FVec Ideal S288x256x1024 .f32) (x2 : FVec Ideal S2x32x1024x2048 .f32) (x3 : FVec Ideal S2x32x2048 .f32)
  (x4 : FVec Ideal S2x32x1024x1024 .f32) (x5 : FVec Ideal S2x32x1024 .f32)

/-- The reference's first product. -/
theorem ref_hidden (t : Fin 288) (r : Fin 256) (c : Fin 2048) :
    val_main_v33 (F := Ideal) x0 p x2 x3 (ix3 t r c)
      = hidden (fun k => x0 (ix3 t r k)) (fun k c => x2 (ix4 0 (who p t) k c)) (fun c => x3 (ix3 0 (who p t) c)) c := by
  rw [val_main_v33_apply, val_main_v21_apply, val_main_v32_apply, val_main_v31_apply]
  rw [show idx_main_v31 (idx_main_v32 (ix3 t r c)) = ix2 t c from funext fun a => match a with | ⟨0, _⟩ => rfl | ⟨1, _⟩ => rfl, bias1]
  refine congrArg (· + _) (Finset.sum_congr rfl fun k _ => ?_)
  rw [show lidx_main_v21 (ix3 t r c) k = ix3 t r k from funext fun a => match a with | ⟨0, _⟩ => rfl | ⟨1, _⟩ => rfl | ⟨2, _⟩ => rfl,
    show ridx_main_v21 (ix3 t r c) k = ix3 t k c from funext fun a => match a with | ⟨0, _⟩ => rfl | ⟨1, _⟩ => rfl | ⟨2, _⟩ => rfl, weight1]

/-- The reference's combination of the two halves. -/
theorem ref_glu (t : Fin 288) (r : Fin 256) (k : Fin 1024) :
    val_main_v50 (F := Ideal) x0 p x2 x3 (ix3 t r k)
      = glu (val_main_v33 (F := Ideal) x0 p x2 x3 (ix3 t r ⟨k.val, by omega⟩)) (val_main_v33 (F := Ideal) x0 p x2 x3 (ix3 t r ⟨1024 + k.val, by omega⟩)) := by
  have one : unity = 1 := by simp [Ideal.ofBits, Ideal.ieee]
  have g : val_main_v34 (F := Ideal) x0 p x2 x3 (ix3 t r k) = val_main_v33 (F := Ideal) x0 p x2 x3 (ix3 t r ⟨k.val, by omega⟩) := by
    rw [val_main_v34_apply]
    exact congrArg _ (funext fun a => match a with | ⟨0, _⟩ => rfl | ⟨1, _⟩ => rfl | ⟨2, _⟩ => rfl)
  have u : val_main_v35 (F := Ideal) x0 p x2 x3 (ix3 t r k) = val_main_v33 (F := Ideal) x0 p x2 x3 (ix3 t r ⟨1024 + k.val, by omega⟩) := by
    rw [val_main_v35_apply]
    exact congrArg _ (funext fun a => match a with | ⟨0, _⟩ => rfl | ⟨1, _⟩ => rfl | ⟨2, _⟩ => rfl)
  rw [← g, ← u]
  simp only [val_main_v50_apply, val_main_v49_apply, val_main_v48_apply, val_main_v47_apply, val_main_v46_apply, val_main_v45_apply, val_main_v44_apply,
    val_main_v43_apply, val_main_v42_apply, val_main_v41_apply, val_main_v40_apply, val_main_v39_apply, val_main_v38_apply, val_main_v37_apply, val_main_v36_apply,
    val_main_call0_v4_apply, val_main_call0_v3_apply, val_main_call0_v2_apply, val_main_call0_v1_apply, val_main_call0_v0_apply,
    val_main_cst_apply, val_main_cst_6_apply, val_main_cst_7_apply, val_main_cst_8_apply, val_main_cst_9_apply, val_main_cst_10_apply, val_main_cst_11_apply]
  generalize val_main_v34 (F := Ideal) x0 p x2 x3 (ix3 t r k) = G
  generalize val_main_v35 (F := Ideal) x0 p x2 x3 (ix3 t r k) = U
  show (min seven (max negSeven U) + unity) * (min G seven * Ideal.div unity (unity + Ideal.exp (-(slope * min G seven)))) = glu G U
  unfold glu Ideal.logistic
  rw [one]

/-- The reference's row of one block, before the blocks that are not used are cleared. -/
theorem ref_row (t : Fin 288) (r : Fin 256) (c : Fin 1024) :
    val_main_v72 (F := Ideal) x0 p x2 x3 x4 x5 (ix3 t r c)
      = expertRow (fun k => x0 (ix3 t r k)) (fun k c => x2 (ix4 0 (who p t) k c)) (fun c => x3 (ix3 0 (who p t) c))
          (fun k c => x4 (ix4 0 (who p t) k c)) (fun c => x5 (ix3 0 (who p t) c)) c := by
  rw [val_main_v72_apply, val_main_v60_apply, val_main_v71_apply, val_main_v70_apply]
  rw [show idx_main_v70 (idx_main_v71 (ix3 t r c)) = ix2 t c from funext fun a => match a with | ⟨0, _⟩ => rfl | ⟨1, _⟩ => rfl, bias2]
  unfold expertRow
  refine congrArg (· + _) (Finset.sum_congr rfl fun k _ => ?_)
  rw [show lidx_main_v60 (ix3 t r c) k = ix3 t r k from funext fun a => match a with | ⟨0, _⟩ => rfl | ⟨1, _⟩ => rfl | ⟨2, _⟩ => rfl,
    show ridx_main_v60 (ix3 t r c) k = ix3 t k c from funext fun a => match a with | ⟨0, _⟩ => rfl | ⟨1, _⟩ => rfl | ⟨2, _⟩ => rfl, weight2, ref_glu,
    ref_hidden, ref_hidden]

/-- The reference's result: the used blocks' rows, laid out in rows of 128, and zero elsewhere. -/
theorem ref_value (t : Fin 288) (r : Fin 256) (c : Fin 1024) (j : S589824x128.Idx) (h0 : (j 0).val = 2048 * t.val + 8 * r.val + c.val / 128) (h1 : (j 1).val = c.val % 128) :
    val_main_v80 (F := Ideal) x0 p x2 x3 x4 x5 j
      = if (t.val : ℤ) < (countOf (F := Ideal) p Idealize.ShloMosaic.ix0).toInt then
          expertRow (fun k => x0 (ix3 t r k)) (fun k c => x2 (ix4 0 (who p t) k c)) (fun c => x3 (ix3 0 (who p t) c))
            (fun k c => x4 (ix4 0 (who p t) k c)) (fun c => x5 (ix3 0 (who p t) c)) c
        else 0 := by
  have hr := r.isLt
  have hc := c.isLt
  have ht := t.isLt
  have zero : Ideal.ofBits FTy.f32 0x00000000#32 = 0 := by simp [Ideal.ofBits, Ideal.ieee]
  have hj : idx_main_v80 j = ix3 t r c := by
    funext a
    refine Fin.ext ?_
    match a with
    | ⟨0, _⟩ => simp only [idx_main_v80, h0, h1]; show _ = t.val; omega
    | ⟨1, _⟩ => simp only [idx_main_v80, h0, h1]; show _ = r.val; omega
    | ⟨2, _⟩ => simp only [idx_main_v80, h0, h1]; show _ = c.val; omega
  rw [val_main_v80_apply, hj, val_main_v79_apply, ref_row, val_main_call2_v1_apply, val_main_v78_apply, val_main_v77_apply, val_main_v76_apply]
  have hw : IntOp.cmpi .slt (val_main_v0 (F := Ideal) (idx_main_v78 (idx_main_call2_v1 (ix3 t r c))))
      (val_main_v75 (F := Ideal) p (idx_main_v76 (idx_main_v78 (idx_main_call2_v1 (ix3 t r c)))))
      = BitVec.ofBool (decide ((t.val : ℤ) < (countOf (F := Ideal) p Idealize.ShloMosaic.ix0).toInt)) := by
    rw [show idx_main_v76 (idx_main_v78 (idx_main_call2_v1 (ix3 t r c))) = Idealize.ShloMosaic.ix0 from funext fun a => a.elim0]
    show BitVec.ofBool ((BitVec.ofNat 32 t.val).slt (countOf (F := Ideal) p Idealize.ShloMosaic.ix0)) = _
    congr 1
    rw [Bool.eq_iff_iff, BitVec.slt_iff_toInt_lt, WordCmp.toInt_ofNat_of_lt (by omega), decide_eq_true_iff]
  rw [hw]
  by_cases h : (t.val : ℤ) < (countOf (F := Ideal) p Idealize.ShloMosaic.ix0).toInt
  · rw [if_pos h, decide_eq_true h]; rfl
  · rw [if_neg h, decide_eq_false h]
    refine Eq.trans ?_ zero
    rfl

end Cert.Proof.Experts

end
-- ==== Proof.ExpertsArray.lean ====
/-  The array the kernel ends with. -/
module

public import proofs.«01_k».proof.Proof.ExpertsRun
public import proofs.«01_k».proof.Proof.ExpertsReference
public import Idealize.ShloMosaic.Lib.Pipeline.ValueKit

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-! The host's reshapes, at an element. -/

theorem tokens_at (x : Vec Ideal S288x256x1024 .f32) (t : Fin 288) (r : Fin 256) (k : Fin 1024) (j : S589824x128.Idx)
    (h0 : (j 0).val = 2048 * t.val + 8 * r.val + k.val / 128) (h1 : (j 1).val = k.val % 128) :
    shapeCast S589824x128 x shapeCasts_S288x256x1024_S589824x128 j = x (ix3 t r k) := by
  refine shapeCast_apply _ _ _ _ ?_
  rw [Shape.rowMajor_val_three, Shape.rowMajor_val_two]
  show (t.val * 256 + r.val) * 1024 + k.val = (j 0).val * 128 + (j 1).val
  omega

theorem bias1_at (b : Vec Ideal S2x32x2048 .f32) (e : Fin 32) (k : Fin 2048) :
    shapeCast S2x32x1x2048 b shapeCasts_S2x32x2048_S2x32x1x2048 (ix4 0 e 0 k) = b (ix3 0 e k) := by
  pointwise

theorem bias2_at (b : Vec Ideal S2x32x1024 .f32) (e : Fin 32) (k : Fin 1024) :
    shapeCast S2x32x1x1024 b shapeCasts_S2x32x1024_S2x32x1x1024 (ix4 0 e 0 k) = b (ix3 0 e k) := by
  pointwise

/-- A block's number. -/
def pos (t : Fin grid0.N) : Fin 288 := ⟨t.val, lt_of_lt_of_eq t.isLt N_0⟩

/-- The table's expert of a block is the reference's. -/
theorem nth_who (t : Fin grid0.N) : nth (tbl m) t = (who (ends m) (pos t)).val := by
  have e : grid0.coords t 0 = (pos t : Fin 288) := Fin.ext (coords_val t)
  exact (congrArg (fun k : Fin 288 => (tbl m 0 (cell k) : BitVec 32).toNat) e).trans (congrArg BitVec.toNat (tbl_owner m (pos t)))

/-- A block is used in the kernel when it is in the reference. -/
theorem live_count (t : Fin grid0.N) : Live m t ↔ (t.val : ℤ) < (countOf (F := Ideal) (ends m) Idealize.ShloMosaic.ix0).toInt := by
  rw [live_val]
  unfold used
  exact iff_of_eq (congrArg (fun w : BitVec 32 => (t.val : ℤ) < w.toInt) (tbl_count m))

/-- The output window's block, in its array. -/
theorem emb5 (a : (pcfg0 (F := Ideal)).Adm) (t : Fin grid0.N) (r : Fin 2048) (k : Fin 128) :
    (((cfg0 a).win 5).blk t).view.emb (ix2 r k : S2048x128.Idx)
      = (ix2 ⟨2048 * t.val + r.val, by have := lt_of_lt_of_eq t.isLt N_0; omega⟩ k : S589824x128.Idx) := by
  have e : cc0_transform_5 (grid0.coords t) = ![t.val, 0] := block5 t
  refine funext fun d => Fin.ext ?_
  refine Eq.trans (b := cc0_transform_5 (grid0.coords t) d * S2048x128.size d + 1 * ((ix2 r k : S2048x128.Idx) d).val) rfl ?_
  rw [e]
  match d with
  | ⟨0, _⟩ => show t.val * 2048 + 1 * r.val = 2048 * t.val + r.val; omega
  | ⟨1, _⟩ => show 0 * 128 + 1 * k.val = k.val; omega

/-- Every point writes its block back: the next point's is another. -/
theorem flush5 (a : (pcfg0 (F := Ideal)).Adm) (t : Fin grid0.N) : ((cfg0 a).win 5).flush t = true := by
  have key : Pipeline.Window.flushOf grid0 true cc0_transform_5 t = true := by
    unfold Pipeline.Window.flushOf
    rw [Bool.true_and, Bool.or_eq_true]
    by_cases h : t.val + 1 = grid0.N
    · exact .inl (by simpa using h)
    · refine .inr (decide_eq_true ⟨by have := t.isLt; omega, fun e => ?_⟩)
      rw [block5, block5] at e
      have := congrFun e 0
      simp at this
  exact key

/-- An element of a point's block. -/
theorem mem5 (a : (pcfg0 (F := Ideal)).Adm) (t : Fin grid0.N) (r : Fin 2048) (k : Fin 128) (i : S589824x128.Idx)
    (h0 : (i 0).val = 2048 * t.val + r.val) (h1 : (i 1).val = k.val) : i ∈ (((cfg0 a).win 5).blk t).view.set := by
  have e' : (ix2 ⟨2048 * t.val + r.val, by have := lt_of_lt_of_eq t.isLt N_0; omega⟩ k : S589824x128.Idx) = i :=
    funext fun d => match d with
      | ⟨0, _⟩ => Fin.ext h0.symm
      | ⟨1, _⟩ => Fin.ext h1.symm
  have hm := View.emb_mem_set (((cfg0 a).win 5).blk t).view (ix2 r k : S2048x128.Idx)
  rw [emb5 a t r k] at hm
  exact e' ▸ hm

/-- The blocks fill the output. -/
theorem cover5 (a : (pcfg0 (F := Ideal)).Adm) (i : S589824x128.Idx) :
    ∃ t : Fin grid0.N, ((cfg0 a).win 5).flush t = true ∧ i ∈ (((cfg0 a).win 5).blk t).view.set := by
  have h0 : (i 0).val < 589824 := (i 0).isLt
  obtain ⟨t, ht⟩ : ∃ t : Fin grid0.N, t.val = (i 0).val / 2048 := ⟨⟨(i 0).val / 2048, by rw [N_0]; omega⟩, rfl⟩
  exact ⟨t, flush5 a t, mem5 a t ⟨(i 0).val % 2048, by omega⟩ (i 1) i (by rw [ht]; show _ = 2048 * _ + (i 0).val % 2048; omega) rfl⟩

/-- The reference's result on a device's arguments. -/
def result (c : Dev nD) : Vec Ideal S589824x128 .f32 :=
  Cert.Reference2Ideal.Read.val_main_v80 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-! A used point's blocks, in the arguments. -/

theorem row_eq (hO : Ok m) (t : Fin grid0.N) (hl : Live m t) (r : Fin 256) (k : Fin 1024) :
    rowOf (iblk m hO 0 0 t) r k = (m (((0 : Dev nD) : Thread nD τ).loc main_arg0) : Vec Ideal S288x256x1024 .f32) (ix3 (pos t) r k) := by
  unfold rowOf
  refine (read0 (adm m hO) t (V m 0 main_v0) hl _ _).trans ((congrFun (V_tokens m 0) _).trans (tokens_at _ (pos t) r k _ ?_ rfl))
  show 2048 * t.val + (8 * r.val + k.val / 128) = 2048 * t.val + 8 * r.val + k.val / 128
  omega

theorem owner_eq (hO : Ok m) (t : Fin grid0.N) : (⟨nth (adm m hO).1 t, nth_lt (adm m hO).1 (adm m hO).2 t⟩ : Fin 32) = who (ends m) (pos t) :=
  Fin.ext (nth_who m t)

theorem weight1_eq (hO : Ok m) (t : Fin grid0.N) (k : Fin 1024) (c : Fin 2048) :
    k0_pay1 (iblk m hO 0 1 t) (ix2 k c)
      = (m (((0 : Dev nD) : Thread nD τ).loc main_arg2) : Vec Ideal S2x32x1024x2048 .f32) (ix4 0 (who (ends m) (pos t)) k c) := by
  refine (load1_apply (iblk m hO 0 1 t) k c).trans ((read1 (adm m hO) t (V m 0 main_arg2) k c).trans ((congrFun (V_arg2 m 0) _).trans ?_))
  exact congrArg (fun e : Fin 32 => (m (((0 : Dev nD) : Thread nD τ).loc main_arg2) : Vec Ideal S2x32x1024x2048 .f32) (ix4 0 e k c)) (owner_eq m hO t)

theorem bias1_eq (hO : Ok m) (t : Fin grid0.N) (c : Fin 2048) :
    (iblk m hO 0 2 t : Vec Ideal S1x1x1x2048 .f32) (ix4 0 0 0 c)
      = (m (((0 : Dev nD) : Thread nD τ).loc main_arg3) : Vec Ideal S2x32x2048 .f32) (ix3 0 (who (ends m) (pos t)) c) := by
  refine (read2 (adm m hO) t (V m 0 main_v17) c).trans ((congrFun (V_bias1 m 0) _).trans ((bias1_at _ _ c).trans ?_))
  exact congrArg (fun e : Fin 32 => (m (((0 : Dev nD) : Thread nD τ).loc main_arg3) : Vec Ideal S2x32x2048 .f32) (ix3 0 e c)) (owner_eq m hO t)

theorem weight2_eq (hO : Ok m) (t : Fin grid0.N) (k c : Fin 1024) :
    k0_pay2 (iblk m hO 0 3 t) (ix2 k c)
      = (m (((0 : Dev nD) : Thread nD τ).loc main_arg4) : Vec Ideal S2x32x1024x1024 .f32) (ix4 0 (who (ends m) (pos t)) k c) := by
  refine (load2_apply (iblk m hO 0 3 t) k c).trans ((read3 (adm m hO) t (V m 0 main_arg4) k c).trans ((congrFun (V_arg4 m 0) _).trans ?_))
  exact congrArg (fun e : Fin 32 => (m (((0 : Dev nD) : Thread nD τ).loc main_arg4) : Vec Ideal S2x32x1024x1024 .f32) (ix4 0 e k c)) (owner_eq m hO t)

theorem bias2_eq (hO : Ok m) (t : Fin grid0.N) (c : Fin 1024) :
    (iblk m hO 0 4 t : Vec Ideal S1x1x1x1024 .f32) (ix4 0 0 0 c)
      = (m (((0 : Dev nD) : Thread nD τ).loc main_arg5) : Vec Ideal S2x32x1024 .f32) (ix3 0 (who (ends m) (pos t)) c) := by
  refine (read4 (adm m hO) t (V m 0 main_v18) c).trans ((congrFun (V_bias2 m 0) _).trans ((bias2_at _ _ c).trans ?_))
  exact congrArg (fun e : Fin 32 => (m (((0 : Dev nD) : Thread nD τ).loc main_arg5) : Vec Ideal S2x32x1024 .f32) (ix3 0 e c)) (owner_eq m hO t)

/-- A row's element in its block. -/
theorem spread_at (R : FVec Ideal S256x1024 .f32) (r : Fin 256) (c : Fin 1024) :
    spread R (ix2 ⟨8 * r.val + c.val / 128, by omega⟩ ⟨c.val % 128, by omega⟩ : S2048x128.Idx) = R (ix2 r c) := by
  have e : (ix2 ⟨(8 * r.val + c.val / 128) / 8, by omega⟩ ⟨128 * ((8 * r.val + c.val / 128) % 8) + c.val % 128, by omega⟩ : S256x1024.Idx) = ix2 r c :=
    funext fun d => match d with
      | ⟨0, _⟩ => Fin.ext (by show (8 * r.val + c.val / 128) / 8 = r.val; omega)
      | ⟨1, _⟩ => Fin.ext (by show 128 * ((8 * r.val + c.val / 128) % 8) + c.val % 128 = c.val; omega)
  exact congrArg R e

/-- What the body leaves at a point is the reference's block. -/
theorem leaves_at (hO : Ok m) (t : Fin grid0.N) (r : Fin 256) (c : Fin 1024) (j : S589824x128.Idx)
    (h0 : (j 0).val = 2048 * t.val + 8 * r.val + c.val / 128) (h1 : (j 1).val = c.val % 128) :
    leaves m hO 0 t (ix2 ⟨8 * r.val + c.val / 128, by omega⟩ ⟨c.val % 128, by omega⟩ : S2048x128.Idx) = result m 0 j := by
  refine Eq.trans ?_ (ref_value (ends m) _ _ _ _ _ (pos t) r c j h0 h1).symm
  by_cases hl : Live m t
  · refine Eq.trans ?_ (if_pos ((live_count m t).mp hl)).symm
    refine (congrFun (if_pos hl : leaves m hO 0 t = _) _).trans ((spread_at _ r c).trans ((rowsOut_apply _ _ _ _ _ r c).trans ?_))
    rw [show rowOf (iblk m hO 0 0 t) r = _ from funext fun k => row_eq m hO t hl r k]
    rw [show (fun k c => k0_pay1 (iblk m hO 0 1 t) (ix2 k c)) = _ from funext fun k => funext fun c => weight1_eq m hO t k c]
    rw [show (fun c => (iblk m hO 0 2 t : Vec Ideal S1x1x1x2048 .f32) (ix4 0 0 0 c)) = _ from funext fun c => bias1_eq m hO t c]
    rw [show (fun k c => k0_pay2 (iblk m hO 0 3 t) (ix2 k c)) = _ from funext fun k => funext fun c => weight2_eq m hO t k c]
    rw [show (fun c => (iblk m hO 0 4 t : Vec Ideal S1x1x1x1024 .f32) (ix4 0 0 0 c)) = _ from funext fun c => bias2_eq m hO t c]
  · refine Eq.trans ?_ (if_neg fun h => hl ((live_count m t).mpr h)).symm
    exact (congrFun (if_neg hl : leaves m hO 0 t = _) _).trans (blank_apply _)

/-- What a point writes back is its block of the reference's result. -/
theorem flushed_eq (hO : Ok m) (t : Fin grid0.N) :
    (dats m hO 0 0).flushed 5 t = (((cfgM m hO).win 5).blk t).view.read (Elt Ideal) (result m 0) := by
  refine Eq.trans (b := leaves m hO 0 t) (after_5 m hO 0 t) (funext fun (y : S2048x128.Idx) => ?_)
  have hy0 : (y 0).val < 2048 := (y 0).isLt
  have hy1 : (y 1).val < 128 := (y 1).isLt
  have ey : (ix2 ⟨8 * ((y 0).val / 8) + (128 * ((y 0).val % 8) + (y 1).val) / 128, by omega⟩ ⟨(128 * ((y 0).val % 8) + (y 1).val) % 128, by omega⟩ : S2048x128.Idx) = y :=
    funext fun d => match d with
      | ⟨0, _⟩ => Fin.ext (by show 8 * ((y 0).val / 8) + (128 * ((y 0).val % 8) + (y 1).val) / 128 = (y 0).val; omega)
      | ⟨1, _⟩ => Fin.ext (by show (128 * ((y 0).val % 8) + (y 1).val) % 128 = (y 1).val; omega)
  have e := leaves_at m hO t ⟨(y 0).val / 8, by omega⟩ ⟨128 * ((y 0).val % 8) + (y 1).val, by omega⟩
    (ix2 ⟨2048 * t.val + (y 0).val, by have := lt_of_lt_of_eq t.isLt N_0; omega⟩ (y 1))
    (by show 2048 * t.val + (y 0).val = 2048 * t.val + 8 * ((y 0).val / 8) + (128 * ((y 0).val % 8) + (y 1).val) / 128; omega)
    (by show (y 1).val = (128 * ((y 0).val % 8) + (y 1).val) % 128; omega)
  have hy : y = (ix2 (y 0) (y 1) : S2048x128.Idx) := funext fun d => match d with | ⟨0, _⟩ => rfl | ⟨1, _⟩ => rfl
  refine (congrArg (leaves m hO 0 t) ey.symm).trans (e.trans ?_)
  exact ((congrArg ((((cfgM m hO).win 5).blk t).view.read (Elt Ideal) (result m 0)) hy).trans (read5 (adm m hO) t (result m 0) (y 0) (y 1))).symm

/-- The output after the run is the reference's result. -/
theorem final (hO : Ok m) (c : Dev nD) : (dats m hO 0 c).arrAt 5 (cfgM m hO).N = result m c := by
  obtain rfl : c = 0 := Subsingleton.elim _ _
  exact (dats m hO 0 0).arrAt_eq_of_cover 5 (result m 0) (fun t _ => flushed_eq m hO t) (fun i => cover5 (adm m hO) i)

end Cert.Proof.Experts

end
-- ==== Proof.ExpertsText.lean ====
/-  The kernel and its idealized reading are one program text. -/
module

public import proofs.«01_k».proof.Proof.Gen.Kernel2.Launch
public import proofs.«01_k».proof.Proof.Gen.Kernel2Ideal.Launch
public import Idealize.ShloMosaic.PureOps.BitExact

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The body is the same, -/
theorem same_body : @Cert.Kernel2.cc0_moe_experts Bits _ _ = @cc0_moe_experts Bits _ _ := by
  unfold Cert.Kernel2.cc0_moe_experts cc0_moe_experts
  rfl

/-- so is the table of the body's calls, -/
theorem same_defs₀ : Cert.Kernel2.defs₀ (F := Bits) = defs₀ (F := Bits) := by
  unfold Cert.Kernel2.defs₀ defs₀
  refine congrArg Defs.onTc ?_
  funext p a
  match p, a with
  | 0, (t, s) =>
    have e := congrArg (fun f => f (grid0.coords t) (Memref.whole main_v12) (Memref.isWhole_whole _) (Memref.whole main_v16) (Memref.isWhole_whole _)
      (spec0_0.stage (s 0)) (Facts₀.hstage0_0 ((s 0).cast Facts₀.nbuf0_0)) (spec0_1.stage (s 1)) (Facts₀.hstage0_1 ((s 1).cast Facts₀.nbuf0_1))
      (spec0_2.stage (s 2)) (Facts₀.hstage0_2 ((s 2).cast Facts₀.nbuf0_2)) (spec0_3.stage (s 3)) (Facts₀.hstage0_3 ((s 3).cast Facts₀.nbuf0_3))
      (spec0_4.stage (s 4)) (Facts₀.hstage0_4 ((s 4).cast Facts₀.nbuf0_4)) (spec0_5.stage (s 5)) (Facts₀.hstage0_5 ((s 5).cast Facts₀.nbuf0_5))
      (Memref.whole cc0_scratch0) (Memref.isWhole_whole _) (Memref.whole cc0_scratch1) (Memref.isWhole_whole _)) same_body
    exact e

/-- and the table of all. -/
theorem same_defs : Cert.Kernel2.defs (F := Bits) = defs (F := Bits) := congrArg (Pipeline.defs (pcfgs (F := Bits))) same_defs₀

/-! The host's operations are the same, stretch by stretch. -/

theorem same_ops0 : Cert.Kernel2.Gen.hostOps0 (F := Bits) = hostOps0 (F := Bits) := rfl
theorem same_ops1 : Cert.Kernel2.Gen.hostOps0_1 (F := Bits) = hostOps0_1 (F := Bits) := rfl
theorem same_ops2 : Cert.Kernel2.Gen.hostOps0_2 (F := Bits) = hostOps0_2 (F := Bits) := rfl

/-- Three stretches of host operations, then the call. -/
def stretches (l0 l1 l2 : List (HloOp τ sig (Elt Bits))) :
    Prog (TpuEff nD τ sig (Elt Bits) (Pipeline.Sig Λ₀ (Fin 1) fun p => (pcfgs (F := Bits) p).Adm) .tc) PUnit :=
  Pipeline.chain [StableHlo.seq l0, StableHlo.seq l1, StableHlo.seq l2, Prog.lift (.customCall (Pipeline.entry 0) ())]

theorem main_stretches (c : Dev nD) : main (F := Bits) c = stretches hostOps0 hostOps0_1 hostOps0_2 := main_chain c

theorem main_stretches' (c : Dev nD) :
    Cert.Kernel2.main (F := Bits) c = stretches Cert.Kernel2.Gen.hostOps0 Cert.Kernel2.Gen.hostOps0_1 Cert.Kernel2.Gen.hostOps0_2 :=
  Cert.Kernel2.Gen.main_chain c

theorem same_stretches : stretches Cert.Kernel2.Gen.hostOps0 Cert.Kernel2.Gen.hostOps0_1 Cert.Kernel2.Gen.hostOps0_2 = stretches hostOps0 hostOps0_1 hostOps0_2 := by
  rw [same_ops0, same_ops1, same_ops2]

/-- The whole program is the same. -/
theorem same_main : Cert.Kernel2.main (F := Bits) = main (F := Bits) :=
  funext fun c => (main_stretches' c).trans (same_stretches.trans (main_stretches c).symm)

/-- What holds of the runs of one holds of the other's. -/
theorem run_same (m : (ℓ : Loc nD τ sig) → Buf (Elt Bits) ℓ) (ρ : Dev nD → PrngReg) (Q)
    (h : θ_run (defs (F := Bits)) (onTc (τ := τ) (main (F := Bits))) ⟨m, fun _ => 0, ρ⟩ Q) :
    θ_run (Cert.Kernel2.defs (F := Bits)) (onTc (τ := Cert.Kernel2.τ) (Cert.Kernel2.main (F := Bits))) ⟨m, fun _ => 0, ρ⟩ Q :=
  Eq.mpr (congrArg₂ (fun D P => θ_run D (onTc (τ := τ) P) ⟨m, fun _ => 0, ρ⟩ Q) same_defs same_main) h

end Cert.Proof.Experts

end
-- ==== Proof.ExpertsClaims.lean ====
/-  The claims of the experts' call. -/
module

public import proofs.«01_k».proof.Defs
public import proofs.«01_k».proof.Proof.ExpertsArray
public import proofs.«01_k».proof.Proof.ExpertsText
public import proofs.«01_k».proof.Proof.ExpertsText
public import proofs.«01_k».proof.Proof.Gen.Kernel2
public import proofs.«01_k».proof.Proof.Gen.Pre_routed
public import proofs.«01_k».proof.Proof.Gen.Reference2Ideal.Run

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The precondition says that the last block used is not before the first. -/
theorem end_of_pre (a0 : FVec F S288x256x1024 .f32) (p : IVec S32 32) (a2 : FVec F S2x32x1024x2048 .f32) (a3 : FVec F S2x32x2048 .f32)
    (a4 : FVec F S2x32x1024x1024 .f32) (a5 : FVec F S2x32x1024 .f32)
    (h : Cert.Pre_routed.fn (F := F) a0 p a2 a3 a4 a5 = fun _ => 1#1) : 256 ≤ (lastEnd p).toInt := by
  have e : IntOp.cmpi .sge (lastEnd p) 256#32 = 1#1 := by
    refine Eq.trans (congrArg (fun w => IntOp.cmpi .sge w 256#32) (last_eq (F := F) p Idealize.ShloMosaic.ix0)).symm ?_
    exact congrFun h Idealize.ShloMosaic.ix0
  have e' : (256#32).sle (lastEnd p) = true := by
    unfold IntOp.cmpi at e
    cases hb : (256#32).sle (lastEnd p)
    · simp [hb] at e
    · rfl
  rw [BitVec.sle_eq_decide, decide_eq_true_eq] at e'
  exact e'

/-- At every memory the precondition holds of, the tables are in range. -/
theorem ok_of_pre (m : (ℓ : Loc nD τ sig) → Buf (Elt F) ℓ)
    (h : ∀ c : Dev nD, Cert.Pre_routed.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m :=
  ok_of_ends m (end_of_pre _ _ _ _ _ _ (h 0))

/-- The kernel runs, keeps its arguments and leaves every counter at zero. -/
theorem frame_kernel : Cert.quiescent_Kernel2 := by
  intro m ρ h
  have hO : Ok (F := Bits) m := ok_of_pre (F := Bits) m h
  exact run_same m ρ _ (frame (F := Bits) m ρ hO)

/-- So does the idealized kernel, -/
theorem frame_ideal : Cert.quiescent_Kernel2Ideal := fun m ρ h => frame (F := Ideal) m ρ (ok_of_pre m h)

/-- and the reference, -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- under the precondition too. -/
theorem frame_reference_pre : Cert.quiescent_Reference2Ideal_pre_routed := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- No operation of the kernel is replaced in its idealization. -/
theorem preserves : Cert.preserves_Kernel2_Kernel2Ideal := trivial

/-- The kernel and the reference end with the same array. -/
theorem algebraic : Cert.algebraic_Kernel2Ideal_Reference2Ideal := by
  intro m g m' g' hpre hargs
  have hO : Ok m := ok_of_pre m hpre
  refine ⟨fun c => result m c, ?_, ?_⟩
  · refine (θ_run _ _ _).mono (fun r hr c => ?_) (run_main m g hO)
    exact ⟨((hr.1 c).1 5).trans (final m hO c),
      ((hr.1 c).2 main_arg0 (by decide : main_arg0 ∈ Pipeline.restRefs sig spec0)).trans (V_arg0 m c),
      ((hr.1 c).2 main_arg1 (by decide : main_arg1 ∈ Pipeline.restRefs sig spec0)).trans (V_arg1 m c),
      (((hr.1 c).1 1).trans ((dats m hO 0 c).arrAt_in 1 rfl _)).trans ((A_eq m hO c 1).trans (V_arg2 m c)),
      ((hr.1 c).2 main_arg3 (by decide : main_arg3 ∈ Pipeline.restRefs sig spec0)).trans (V_arg3 m c),
      (((hr.1 c).1 3).trans ((dats m hO 0 c).arrAt_in 3 rfl _)).trans ((A_eq m hO c 3).trans (V_arg4 m c)),
      ((hr.1 c).2 main_arg5 (by decide : main_arg5 ∈ Pipeline.restRefs sig spec0)).trans (V_arg5 m c)⟩
  · refine (θ_run _ _ _).mono (fun r h c => ?_) (Cert.Reference2Ideal.Value.run m' g')
    refine ⟨(h c).1.trans ?_, (h c).2⟩
    obtain ⟨e0, e1, e2, e3, e4, e5⟩ := hargs c
    rw [Cert.Reference2Ideal.Read.val_main_v80_eq, e0, e1, e2, e3, e4, e5]
    rfl

end Cert.Proof.Experts

end
-- ==== Proof.GatesValue.lean ====
/-  The merge gates: what one point of the call computes, what the reference computes. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.Value

@[expose] public section

set_option maxRecDepth 16384

noncomputable section

open scoped BigOperators

namespace Cert.Proof.Gates

open Cert.Kernel3Ideal Cert.Kernel3Ideal.Gen
open Cert.Reference3Ideal.Read (val_main_v0 val_main_v1 val_main_v2 val_main_v3 val_main_v4 val_main_v5 val_main_v6 val_main_v7 val_main_v8 val_main_v9
  val_main_v10 val_main_v11 val_main_v12 val_main_cst val_main_cst_0)
open Idealize.ShloMosaic Idealize.ShloMosaic.TcCoe Idealize.SL.Sem

/-- The gate of token `t` of sequence `b` at column `j`: the sigmoid of its projection. The gates' columns start at 3360. -/
def gate (x : FVec Ideal S2x8192x1024 .f32) (w : FVec Ideal S1024x6432 .f32) (b : FVec Ideal S6432 .f32) (s : Fin 2) (t : Fin 8192) (j : Fin 3072) : EReal :=
  Ideal.logistic ((∑ k : Fin 1024, x (ix3 s t k) * w (ix2 k ⟨3360 + j.val, by omega⟩)) + b (ix1 ⟨3360 + j.val, by omega⟩))

/-- One element of a point's block. -/
theorem pay_apply (x : Vec Ideal S1024x1024 .f32) (w : Vec Ideal S1024x1024 .bf16) (b : Vec Ideal S1x1024 .f32) (r j : Fin 1024) :
    k0_pay1 x w b (ix2 r j) = Ideal.logistic ((∑ k : Fin 1024, x (ix2 r k) * w (ix2 k j)) + b (ix2 0 j)) := by
  pointwise [k0_pay1]

/-- The host's arrays at an element: the tokens in one column, -/
theorem rows_apply (x : FVec Ideal S2x8192x1024 .f32) (r : Fin 16384) (k : Fin 1024) :
    shapeCast S16384x1024 x shapeCasts_S2x8192x1024_S16384x1024 (ix2 r k) = x (ix3 ⟨r.val / 8192, by omega⟩ ⟨r.val % 8192, by omega⟩ k) := by
  refine shapeCast_apply _ _ _ _ ?_
  rw [Shape.rowMajor_val_three, Shape.rowMajor_val_two]
  show (r.val / 8192 * 8192 + r.val % 8192) * 1024 + k.val = r.val * 1024 + k.val
  omega

/-- the gates' columns of the weights, -/
theorem weights_apply (w : FVec Ideal S1024x6432 .f32) (k : Fin 1024) (j : Fin 3072) :
    (truncf .bf16 (extractStridedSlice S1024x3072 ![0, 3360] w slices_S1024x6432_S1024x3072_0_3360) bitsLt_bf16_f32 : FVec Ideal S1024x3072 .bf16) (ix2 k j)
      = w (ix2 k ⟨3360 + j.val, by omega⟩) := by
  pointwise []

/-- and of the bias. -/
theorem bias_apply (b : FVec Ideal S6432 .f32) (j : Fin 3072) :
    shapeCast S1x3072 (extractStridedSlice S3072 ![3360] b slices_S6432_S3072_3360) shapeCasts_S3072_S1x3072 (ix2 0 j)
      = b (ix1 ⟨3360 + j.val, by omega⟩) := by
  pointwise []

/-- The reference at an element. -/
theorem reference_apply (x : FVec Ideal S2x8192x1024 .f32) (w : FVec Ideal S1024x6432 .f32) (b : FVec Ideal S6432 .f32) (r : Fin 16384) (j : Fin 3072) :
    val_main_v12 (F := Ideal) x w b (ix2 r j) = gate x w b ⟨r.val / 8192, by omega⟩ ⟨r.val % 8192, by omega⟩ j := by
  have e : ∀ (s : Fin 2) (t : Fin 8192), val_main_v10 (F := Ideal) x w b (ix3 s t j) = gate x w b s t j := by
    intro s t
    pointwise [val_main_v10, val_main_v9, val_main_v8, val_main_v7, val_main_v6,
      val_main_v5, val_main_v4, val_main_v3, val_main_v2, val_main_v1, val_main_v0, val_main_cst, val_main_cst_0]
    rfl
  rw [← e]
  show val_main_v11 (F := Ideal) x w b (ix2 r j) = _
  unfold val_main_v11
  refine shapeCast_apply _ _ _ _ ?_
  rw [Shape.rowMajor_val_three, Shape.rowMajor_val_two]
  show (r.val / 8192 * 8192 + r.val % 8192) * 3072 + j.val = r.val * 3072 + j.val
  omega

end Cert.Proof.Gates

end
-- ==== Proof.GatesArray.lean ====
/-  The result array of the merge gates' call. -/
module

public import proofs.«01_k».proof.Proof.GatesValue
public import Idealize.ShloMosaic.Lib.Pipeline.ValueKit

@[expose] public section

set_option maxRecDepth 16384

noncomputable section

open scoped BigOperators

namespace Cert.Proof.Gates

open Cert.Kernel3Ideal Cert.Kernel3Ideal.Gen
open Idealize.ShloMosaic Idealize.ShloMosaic.TcCoe Idealize.SL.Sem
open Idealize.ShloMosaic.Pipeline (Dat)

/-- Row block of a point. -/
def rowBlk (t : Fin cfg0.N) : ℕ := (grid0.coords t 0).val
/-- Column block of a point. -/
def colBlk (t : Fin cfg0.N) : ℕ := (grid0.coords t 1).val

theorem rowBlk_lt (t : Fin cfg0.N) : rowBlk t < 16 := (grid0.coords t 0).isLt
theorem colBlk_lt (t : Fin cfg0.N) : colBlk t < 3 := (grid0.coords t 1).isLt

/-- The array's row of a block's row. -/
def rowAt (t : Fin cfg0.N) (r : Fin 1024) : Fin 16384 := ⟨1024 * rowBlk t + r.val, by have := rowBlk_lt t; omega⟩
/-- The array's column of a block's column. -/
def colAt (t : Fin cfg0.N) (j : Fin 1024) : Fin 3072 := ⟨1024 * colBlk t + j.val, by have := colBlk_lt t; omega⟩

/-! The blocks' numbers. -/

theorem idx0 : ∀ t : Fin cfg0.N, win0_0.index t (0 : Fin 2) = rowBlk t ∧ win0_0.index t (1 : Fin 2) = 0 :=
  (by decide +kernel : ∀ t : Fin grid0.N, _)
theorem idx1 : ∀ t : Fin cfg0.N, win0_1.index t (0 : Fin 2) = 0 ∧ win0_1.index t (1 : Fin 2) = colBlk t :=
  (by decide +kernel : ∀ t : Fin grid0.N, _)
theorem idx2 : ∀ t : Fin cfg0.N, win0_2.index t (0 : Fin 2) = 0 ∧ win0_2.index t (1 : Fin 2) = colBlk t :=
  (by decide +kernel : ∀ t : Fin grid0.N, _)
theorem idx3 : ∀ t : Fin cfg0.N, win0_3.index t (0 : Fin 2) = rowBlk t ∧ win0_3.index t (1 : Fin 2) = colBlk t :=
  (by decide +kernel : ∀ t : Fin grid0.N, _)

variable (m : (ℓ : Loc nD τ sig) → Buf (Elt Ideal) ℓ) (c : Dev nD)

/-- The tokens of the device. -/
abbrev xArg : FVec Ideal S2x8192x1024 .f32 := m ((c : Thread nD τ).loc main_arg0)
/-- The weights of the device. -/
abbrev wArg : FVec Ideal S1024x6432 .f32 := m ((c : Thread nD τ).loc main_arg1)
/-- The bias of the device. -/
abbrev bArg : FVec Ideal S6432 .f32 := m ((c : Thread nD τ).loc main_arg2)

/-! What the call finds. -/

theorem V_rows : V m c main_v0 = shapeCast S16384x1024 (xArg m c) shapeCasts_S2x8192x1024_S16384x1024 := by
  unfold V
  after_results
  rfl

theorem V_weights : V m c main_v2 = truncf .bf16 (extractStridedSlice S1024x3072 ![0, 3360] (wArg m c) slices_S1024x6432_S1024x3072_0_3360) bitsLt_bf16_f32 := by
  unfold V
  after_results

theorem V_bias : V m c main_v4 = shapeCast S1x3072 (extractStridedSlice S3072 ![3360] (bArg m c) slices_S6432_S3072_3360) shapeCasts_S3072_S1x3072 := by
  unfold V
  after_results
  rfl

/-! The blocks read at an element. -/

theorem iblk0_apply (t : Fin cfg0.N) (r k : Fin 1024) : iblk m c 0 t (ix2 r k)
    = xArg m c (ix3 ⟨(rowAt t r).val / 8192, by omega⟩ ⟨(rowAt t r).val % 8192, by omega⟩ k) := by
  obtain ⟨e0, e1⟩ := idx0 t
  refine Eq.trans ?_ (rows_apply (xArg m c) (rowAt t r) k)
  rw [← V_rows]
  show V m c main_v0 (((cfg0.win 0).blk t).view.emb (ix2 r k)) = _
  refine congrArg _ (funext fun a => Fin.ext ?_)
  match a with
  | ⟨0, _⟩ => show win0_0.index t (0 : Fin 2) * 1024 + 1 * r.val = 1024 * rowBlk t + r.val; omega
  | ⟨1, _⟩ => show win0_0.index t (1 : Fin 2) * 1024 + 1 * k.val = k.val; omega

theorem iblk1_apply (t : Fin cfg0.N) (k j : Fin 1024) : iblk m c 1 t (ix2 k j)
    = wArg m c (ix2 k ⟨3360 + (colAt t j).val, by omega⟩) := by
  obtain ⟨e0, e1⟩ := idx1 t
  refine Eq.trans ?_ (weights_apply (wArg m c) k (colAt t j))
  rw [← V_weights]
  show V m c main_v2 (((cfg0.win 1).blk t).view.emb (ix2 k j)) = _
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * j.val = 1024 * colBlk t + j.val; omega

theorem iblk2_apply (t : Fin cfg0.N) (j : Fin 1024) : iblk m c 2 t (ix2 0 j)
    = bArg m c (ix1 ⟨3360 + (colAt t j).val, by omega⟩) := by
  obtain ⟨e0, e1⟩ := idx2 t
  refine Eq.trans ?_ (bias_apply (bArg m c) (colAt t j))
  rw [← V_bias]
  show V m c main_v4 (((cfg0.win 2).blk t).view.emb (ix2 0 j)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * j.val = 1024 * colBlk t + j.val; omega

theorem emb3 (t : Fin cfg0.N) (r j : Fin 1024) : ((cfg0.win 3).blk t).view.emb (ix2 r j) = ix2 (rowAt t r) (colAt t j) := by
  obtain ⟨e0, e1⟩ := idx3 t
  refine funext fun a => Fin.ext ?_
  match a with
  | ⟨0, _⟩ => show win0_3.index t (0 : Fin 2) * 1024 + 1 * r.val = 1024 * rowBlk t + r.val; omega
  | ⟨1, _⟩ => show win0_3.index t (1 : Fin 2) * 1024 + 1 * j.val = 1024 * colBlk t + j.val; omega

/-- The result: every token's gates. -/
def result : Buf (Elt Ideal) ((c : Thread nD τ).loc main_v5) := fun i : S16384x3072.Idx =>
  gate (xArg m c) (wArg m c) (bArg m c) ⟨(i 0).val / 8192, by have : (i 0).val < 16384 := (i 0).isLt; omega⟩ ⟨(i 0).val % 8192, by omega⟩ (i 1)

/-- What a point writes back is its block of the result. -/
theorem flushed_eq (t : Fin cfg0.N) :
    (dats m 0 c).flushed 3 t = ((cfg0.win 3).blk t).view.read (Elt Ideal) (result m c) := by
  rw [Value.flushed3]
  funext y
  obtain ⟨r, j, rfl⟩ : ∃ (r : Fin 1024) (j : Fin 1024), y = ix2 r j := ⟨y 0, y 1, funext fun a => match a with
    | ⟨0, _⟩ => rfl
    | ⟨1, _⟩ => rfl⟩
  refine Eq.trans ?_ (congrArg (result m c) (emb3 t r j)).symm
  show out0_3 (iblk m c 0 t) (iblk m c 1 t) (iblk m c 2 t) (ix2 r j) = gate (xArg m c) (wArg m c) (bArg m c) _ _ _
  unfold out0_3
  have hcov := cover0_3 (F := Ideal) (k0_pay1 (View.ld (iblk m c 0 t) r0_0) (View.ld (iblk m c 1 t) r0_0) (View.ld (iblk m c 2 t) r0_1))
  refine View.canon_apply_of_pieces (Val := Elt Ideal) (e := .bf16)
    (fun y : S1024x1024.Idx => gate (xArg m c) (wArg m c) (bArg m c) ⟨(rowAt t (y 0)).val / 8192, by omega⟩ ⟨(rowAt t (y 0)).val % 8192, by omega⟩ (colAt t (y 1)))
    _ (fun p hp z => ?_) (ix2 r j) (hcov _)
  simp only [List.mem_cons, List.not_mem_nil, or_false] at hp
  subst hp
  obtain ⟨r, j, rfl⟩ : ∃ (r : Fin 1024) (j : Fin 1024), z = ix2 r j := ⟨z 0, z 1, funext fun a => match a with
    | ⟨0, _⟩ => rfl
    | ⟨1, _⟩ => rfl⟩
  have whole : ∀ (z : S1024x1024.Idx), r0_0.emb z = z := fun z => funext fun a => Fin.ext (match a with
    | ⟨0, _⟩ => by show 0 + 1 * _ = _; omega
    | ⟨1, _⟩ => by show 0 + 1 * _ = _; omega)
  have whole' : ∀ (z : S1x1024.Idx), r0_1.emb z = z := fun z => funext fun a => Fin.ext (match a with
    | ⟨0, _⟩ => by show 0 + 1 * _ = _; omega
    | ⟨1, _⟩ => by show 0 + 1 * _ = _; omega)
  have e0 : View.ld (iblk m c 0 t) r0_0 = iblk m c 0 t := funext fun z => congrArg (iblk m c 0 t) (whole z)
  have e1 : View.ld (iblk m c 1 t) r0_0 = iblk m c 1 t := funext fun z => congrArg (iblk m c 1 t) (whole z)
  have e2 : View.ld (iblk m c 2 t) r0_1 = iblk m c 2 t := funext fun z => congrArg (iblk m c 2 t) (whole' z)
  show k0_pay1 (View.ld (iblk m c 0 t) r0_0) (View.ld (iblk m c 1 t) r0_0) (View.ld (iblk m c 2 t) r0_1) (ix2 r j) = _
  rw [e0, e1, e2, pay_apply]
  have e : r0_0.emb (ix2 r j) = ix2 r j := whole _
  show _ = gate (xArg m c) (wArg m c) (bArg m c) ⟨(rowAt t (r0_0.emb (ix2 r j) 0)).val / 8192, _⟩ ⟨(rowAt t (r0_0.emb (ix2 r j) 0)).val % 8192, _⟩ (colAt t (r0_0.emb (ix2 r j) 1))
  rw [e]
  unfold gate
  refine congrArg Ideal.logistic (congrArg₂ (· + ·) (Finset.sum_congr rfl fun k _ => ?_) (iblk2_apply m c t j))
  rw [iblk0_apply, iblk1_apply]
  rfl

/-- The result array after the run. -/
theorem final : (dats m 0 c).arrAt 3 cfg0.N = result m c :=
  (dats m 0 c).arrAt_eq_of_cover 3 (result m c) (fun t _ => flushed_eq m c t)
    ((by decide +kernel : (cfg0.win 3).Covers).cover _ (Memref.isWhole_whole _))

end Cert.Proof.Gates

end
-- ==== Proof.GatesClaims.lean ====
/-  The claims of the merge gates' call. -/
module

public import proofs.«01_k».proof.Defs
public import proofs.«01_k».proof.Proof.GatesArray
public import proofs.«01_k».proof.Proof.Gen.Reference3Ideal.Run

@[expose] public section

set_option maxRecDepth 16384

noncomputable section

namespace Cert.Proof.Gates

open Idealize.ShloMosaic Idealize.ShloMosaic.TcCoe Idealize.SL.Sem

/-- No operation of the kernel is replaced in its idealization. -/
theorem preserves : Cert.preserves_Kernel3_Kernel3Ideal := trivial

/-- The reference's array: every token's gates. -/
theorem reference_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v12 (F := Ideal) (xArg m c) (wArg m c) (bArg m c) = result m c := by
  funext i
  obtain ⟨r, j, rfl⟩ : ∃ (r : Fin 16384) (j : Fin 3072), i = ix2 r j := ⟨i 0, i 1, funext fun a => match a with | ⟨0, _⟩ => rfl | ⟨1, _⟩ => rfl⟩
  exact reference_apply _ _ _ r j

/-- The kernel and the reference end with the same array. -/
theorem algebraic : Cert.algebraic_Kernel3Ideal_Reference3Ideal := by
  intro m g m' g' _ hargs
  refine ⟨fun c => result m c, ?_, ?_⟩
  · refine (θ_run _ _ _).mono (fun r h c => ?_) (Cert.Kernel3Ideal.Value.run_blocks m g)
    exact ⟨(h c).1.trans (final m c), (h c).2⟩
  · refine (θ_run _ _ _).mono (fun r h c => ?_) (Cert.Reference3Ideal.Value.run m' g')
    refine ⟨(h c).1.trans ?_, (h c).2⟩
    obtain ⟨e0, e1, e2⟩ := hargs c
    rw [Cert.Reference3Ideal.Read.val_main_v12_eq, e0, e1, e2]
    exact reference_eq m c

/-- The reference runs, keeps its arguments and ends with every counter at zero: it declares no semaphore. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

end Cert.Proof.Gates

end
-- ==== Proof.lean ====
/- The claims of this certificate, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_routed
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Claims
public import proofs.«01_k».proof.Proof.ExpertsClaims
public import proofs.«01_k».proof.Proof.GatesClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Pre_finite.Gen.facts, Cert.Pre_routed.Gen.facts,
  fun m ρ _ => Cert.Kernel.Gen.frame m ρ,
  fun m ρ _ => Cert.KernelIdeal.Gen.frame m ρ,
  fun m ρ _ => Cert.KernelIdeal.Gen.frame m ρ,
  Claims.reference_quiescent,
  Claims.reference_quiescent_pre,
  Experts.frame_kernel,
  Experts.frame_ideal,
  Experts.frame_reference,
  Experts.frame_reference_pre,
  fun m ρ _ => Cert.Kernel3.Gen.frame m ρ,
  fun m ρ _ => Cert.Kernel3Ideal.Gen.frame m ρ,
  Gates.frame_reference,
  Claims.preserves,
  Claims.algebraic,
  Experts.preserves,
  Experts.algebraic,
  Gates.preserves,
  Gates.algebraic⟩

end Cert.Proof

end
